-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v69) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_v41) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S2x4096x4096 : Shape := ⟨3, ![2, 4096, 4096]⟩
abbrev S4096 : Shape := ⟨1, ![4096]⟩
abbrev S4096x11840 : Shape := ⟨2, ![4096, 11840]⟩
abbrev S1024 : Shape := ⟨1, ![1024]⟩
abbrev S512 : Shape := ⟨1, ![512]⟩
abbrev S4096x32 : Shape := ⟨2, ![4096, 32]⟩
abbrev S8192x4096 : Shape := ⟨2, ![8192, 4096]⟩
abbrev S11840x4096 : Shape := ⟨2, ![11840, 4096]⟩
abbrev S1664x4096 : Shape := ⟨2, ![1664, 4096]⟩
abbrev S_ : Shape := ⟨0, ![]⟩
abbrev S4096x64 : Shape := ⟨2, ![4096, 64]⟩
abbrev S4096x128 : Shape := ⟨2, ![4096, 128]⟩
abbrev S1x4096 : Shape := ⟨2, ![1, 4096]⟩
abbrev S1x1024 : Shape := ⟨2, ![1, 1024]⟩
abbrev S1x512 : Shape := ⟨2, ![1, 512]⟩
abbrev S8192x1024 : Shape := ⟨2, ![8192, 1024]⟩
abbrev S8192x512 : Shape := ⟨2, ![8192, 512]⟩
abbrev S8192x128 : Shape := ⟨2, ![8192, 128]⟩
abbrev S2048x4096 : Shape := ⟨2, ![2048, 4096]⟩
abbrev S512x4096 : Shape := ⟨2, ![512, 4096]⟩
abbrev S512x128 : Shape := ⟨2, ![512, 128]⟩
abbrev S128x4096 : Shape := ⟨2, ![128, 4096]⟩
abbrev S512x1024 : Shape := ⟨2, ![512, 1024]⟩
abbrev S512x512 : Shape := ⟨2, ![512, 512]⟩
abbrev S256x4096 : Shape := ⟨2, ![256, 4096]⟩
abbrev S256x1664 : Shape := ⟨2, ![256, 1664]⟩
abbrev S256 : Shape := ⟨1, ![256]⟩
abbrev S256x1 : Shape := ⟨2, ![256, 1]⟩
abbrev S256x1024 : Shape := ⟨2, ![256, 1024]⟩
abbrev S256x512 : Shape := ⟨2, ![256, 512]⟩
abbrev S256x128 : Shape := ⟨2, ![256, 128]⟩

abbrev nBuf : Space → Nat
  | .hbm => 23
  | .vmem => 22
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x11840, .f32⟩
  | .hbm, ⟨3, _⟩ => ⟨S1024, .f32⟩
  | .hbm, ⟨4, _⟩ => ⟨S512, .f32⟩
  | .hbm, ⟨5, _⟩ => ⟨S4096x32, .f32⟩
  | .hbm, ⟨6, _⟩ => ⟨S4096x32, .f32⟩
  | .hbm, ⟨7, _⟩ => ⟨S8192x4096, .f32⟩
  | .hbm, ⟨8, _⟩ => ⟨S11840x4096, .f32⟩
  | .hbm, ⟨9, _⟩ => ⟨S1664x4096, .f32⟩
  | .hbm, ⟨10, _⟩ => ⟨S1664x4096, .bf16⟩
  | .hbm, ⟨11, _⟩ => ⟨S_, .f32⟩
  | .hbm, ⟨12, _⟩ => ⟨S4096x64, .f32⟩
  | .hbm, ⟨13, _⟩ => ⟨S4096x128, .f32⟩
  | .hbm, ⟨14, _⟩ => ⟨S4096x128, .f32⟩
  | .hbm, ⟨15, _⟩ => ⟨S1x4096, .f32⟩
  | .hbm, ⟨16, _⟩ => ⟨S1x1024, .f32⟩
  | .hbm, ⟨17, _⟩ => ⟨S1x512, .f32⟩
  | .hbm, ⟨18, _⟩ => ⟨S8192x4096, .bf16⟩
  | .hbm, ⟨19, _⟩ => ⟨S8192x1024, .bf16⟩
  | .hbm, ⟨20, _⟩ => ⟨S8192x512, .bf16⟩
  | .hbm, ⟨21, _⟩ => ⟨S8192x128, .bf16⟩
  | .hbm, ⟨22, _⟩ => ⟨S2048x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1664x4096, .bf16⟩
  | .local _ .vmem, ⟨4, _⟩ => ⟨S1x1024, .f32⟩
  | .local _ .vmem, ⟨5, _⟩ => ⟨S1x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S128x4096, .f32⟩
  | .local _ .vmem, ⟨11, _⟩ => ⟨S128x4096, .f32⟩
  | .local _ .vmem, ⟨12, _⟩ => ⟨S512x4096, .bf16⟩
  | .local _ .vmem, ⟨13, _⟩ => ⟨S512x4096, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x128, .bf16⟩
  | .local _ .vmem, ⟨19, _⟩ => ⟨S512x128, .bf16⟩
  | .local _ .vmem, ⟨20, _⟩ => ⟨S128x4096, .bf16⟩
  | .local _ .vmem, ⟨21, _⟩ => ⟨S128x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c9792_i32 : BitVec 32 := 9792#32
  let arg0 : BitVec 32 := BitVec.ofNat 32 (i 0).val
  let c128_i32 : BitVec 32 := 128#32
  let v0 : BitVec 32 := Scalar.muli arg0 c128_i32
  let v1 : BitVec 32 := Scalar.addi c9792_i32 v0
  v1
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c128_i32 : BitVec 32 := 128#32
  let v0 : BitVec 32 := Scalar.muli arg0 c128_i32
  let c9792_i32 : BitVec 32 := 9792#32
  let v1 : BitVec 32 := Scalar.addi c9792_i32 v0
  let v2 : BitVec 32 := v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1664x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S2x4096x4096 : Shape := ⟨3, ![2, 4096, 4096]⟩
abbrev S4096 : Shape := ⟨1, ![4096]⟩
abbrev S4096x11840 : Shape := ⟨2, ![4096, 11840]⟩
abbrev S1024 : Shape := ⟨1, ![1024]⟩
abbrev S512 : Shape := ⟨1, ![512]⟩
abbrev S4096x32 : Shape := ⟨2, ![4096, 32]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S2x4096x11840 : Shape := ⟨3, ![2, 4096, 11840]⟩
abbrev S2x4096x1024 : Shape := ⟨3, ![2, 4096, 1024]⟩
abbrev S2x4096x512 : Shape := ⟨3, ![2, 4096, 512]⟩
abbrev S2x4096x64 : Shape := ⟨3, ![2, 4096, 64]⟩
abbrev S4096x2048 : Shape := ⟨2, ![4096, 2048]⟩
abbrev S2x4096x32 : Shape := ⟨3, ![2, 4096, 32]⟩
abbrev S1x4096x32 : Shape := ⟨3, ![1, 4096, 32]⟩
abbrev S2x4096x128 : Shape := ⟨3, ![2, 4096, 128]⟩
abbrev S8192x4096 : Shape := ⟨2, ![8192, 4096]⟩
abbrev S1x1x1024 : Shape := ⟨3, ![1, 1, 1024]⟩
abbrev S8192x1024 : Shape := ⟨2, ![8192, 1024]⟩
abbrev S1x1x512 : Shape := ⟨3, ![1, 1, 512]⟩
abbrev S8192x512 : Shape := ⟨2, ![8192, 512]⟩
abbrev S8192x128 : Shape := ⟨2, ![8192, 128]⟩
abbrev S2048x4096 : Shape := ⟨2, ![2048, 4096]⟩

abbrev nBuf : Space → Nat
  | .hbm => 90
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x11840, .f32⟩
  | .hbm, ⟨3, _⟩ => ⟨S1024, .f32⟩
  | .hbm, ⟨4, _⟩ => ⟨S512, .f32⟩
  | .hbm, ⟨5, _⟩ => ⟨S4096x32, .f32⟩
  | .hbm, ⟨6, _⟩ => ⟨S4096x32, .f32⟩
  | .hbm, ⟨7, _⟩ => ⟨S2x4096x4096, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x4096, .f32⟩
  | .hbm, ⟨19, _⟩ => ⟨S2x4096x4096, .f32⟩
  | .hbm, ⟨20, _⟩ => ⟨S1x1x4096, .f32⟩
  | .hbm, ⟨21, _⟩ => ⟨S2x4096x4096, .f32⟩
  | .hbm, ⟨22, _⟩ => ⟨S2x4096x4096, .f32⟩
  | .hbm, ⟨23, _⟩ => ⟨S2x4096x11840, .f32⟩
  | .hbm, ⟨24, _⟩ => ⟨S2x4096x1024, .f32⟩
  | .hbm, ⟨25, _⟩ => ⟨S2x4096x512, .f32⟩
  | .hbm, ⟨26, _⟩ => ⟨S2x4096x64, .f32⟩
  | .hbm, ⟨27, _⟩ => ⟨S4096x2048, .f32⟩
  | .hbm, ⟨28, _⟩ => ⟨S2x4096x32, .f32⟩
  | .hbm, ⟨29, _⟩ => ⟨S2x4096x32, .f32⟩
  | .hbm, ⟨30, _⟩ => ⟨S1x4096x32, .f32⟩
  | .hbm, ⟨31, _⟩ => ⟨S2x4096x32, .f32⟩
  | .hbm, ⟨32, _⟩ => ⟨S2x4096x32, .f32⟩
  | .hbm, ⟨33, _⟩ => ⟨S1x4096x32, .f32⟩
  | .hbm, ⟨34, _⟩ => ⟨S2x4096x32, .f32⟩
  | .hbm, ⟨35, _⟩ => ⟨S2x4096x32, .f32⟩
  | .hbm, ⟨36, _⟩ => ⟨S2x4096x32, .f32⟩
  | .hbm, ⟨37, _⟩ => ⟨S1x4096x32, .f32⟩
  | .hbm, ⟨38, _⟩ => ⟨S2x4096x32, .f32⟩
  | .hbm, ⟨39, _⟩ => ⟨S2x4096x32, .f32⟩
  | .hbm, ⟨40, _⟩ => ⟨S1x4096x32, .f32⟩
  | .hbm, ⟨41, _⟩ => ⟨S2x4096x32, .f32⟩
  | .hbm, ⟨42, _⟩ => ⟨S2x4096x32, .f32⟩
  | .hbm, ⟨43, _⟩ => ⟨S2x4096x32, .f32⟩
  | .hbm, ⟨44, _⟩ => ⟨S2x4096x64, .f32⟩
  | .hbm, ⟨45, _⟩ => ⟨S_, .i32⟩
  | .hbm, ⟨46, _⟩ => ⟨S_, .f32⟩
  | .hbm, ⟨47, _⟩ => ⟨S2x4096x128, .f32⟩
  | .hbm, ⟨48, _⟩ => ⟨S8192x4096, .f32⟩
  | .hbm, ⟨49, _⟩ => ⟨S8192x4096, .bf16⟩
  | .hbm, ⟨50, _⟩ => ⟨S2x4096x1024, .f32⟩
  | .hbm, ⟨51, _⟩ => ⟨S_, .f32⟩
  | .hbm, ⟨52, _⟩ => ⟨S2x4096, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S_, .f32⟩
  | .hbm, ⟨58, _⟩ => ⟨S2x4096x1, .f32⟩
  | .hbm, ⟨59, _⟩ => ⟨S2x4096x1, .f32⟩
  | .hbm, ⟨60, _⟩ => ⟨S2x4096x1, .f32⟩
  | .hbm, ⟨61, _⟩ => ⟨S2x4096x1024, .f32⟩
  | .hbm, ⟨62, _⟩ => ⟨S2x4096x1024, .f32⟩
  | .hbm, ⟨63, _⟩ => ⟨S1x1x1024, .f32⟩
  | .hbm, ⟨64, _⟩ => ⟨S2x4096x1024, .f32⟩
  | .hbm, ⟨65, _⟩ => ⟨S2x4096x1024, .f32⟩
  | .hbm, ⟨66, _⟩ => ⟨S8192x1024, .f32⟩
  | .hbm, ⟨67, _⟩ => ⟨S8192x1024, .bf16⟩
  | .hbm, ⟨68, _⟩ => ⟨S2x4096x512, .f32⟩
  | .hbm, ⟨69, _⟩ => ⟨S_, .f32⟩
  | .hbm, ⟨70, _⟩ => ⟨S2x4096, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S_, .f32⟩
  | .hbm, ⟨76, _⟩ => ⟨S2x4096x1, .f32⟩
  | .hbm, ⟨77, _⟩ => ⟨S2x4096x1, .f32⟩
  | .hbm, ⟨78, _⟩ => ⟨S2x4096x1, .f32⟩
  | .hbm, ⟨79, _⟩ => ⟨S2x4096x512, .f32⟩
  | .hbm, ⟨80, _⟩ => ⟨S2x4096x512, .f32⟩
  | .hbm, ⟨81, _⟩ => ⟨S1x1x512, .f32⟩
  | .hbm, ⟨82, _⟩ => ⟨S2x4096x512, .f32⟩
  | .hbm, ⟨83, _⟩ => ⟨S2x4096x512, .f32⟩
  | .hbm, ⟨84, _⟩ => ⟨S8192x512, .f32⟩
  | .hbm, ⟨85, _⟩ => ⟨S8192x512, .bf16⟩
  | .hbm, ⟨86, _⟩ => ⟨S8192x128, .f32⟩
  | .hbm, ⟨87, _⟩ => ⟨S8192x128, .bf16⟩
  | .hbm, ⟨88, _⟩ => ⟨S2048x4096, .f32⟩
  | .hbm, ⟨89, _⟩ => ⟨S2048x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c : Ref sig .tc := ⟨.hbm, 45, rfl⟩
abbrev main_call0_v0 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_5 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Kernel2.lean ====
abbrev S2x4096x4096 : Shape := ⟨3, ![2, 4096, 4096]⟩
abbrev S4096x11840 : Shape := ⟨2, ![4096, 11840]⟩
abbrev S3x2048 : Shape := ⟨2, ![3, 2048]⟩
abbrev S11840x4096 : Shape := ⟨2, ![11840, 4096]⟩
abbrev S8192x4096 : Shape := ⟨2, ![8192, 4096]⟩
abbrev S8192x2048 : Shape := ⟨2, ![8192, 2048]⟩
abbrev S2048x4096 : Shape := ⟨2, ![2048, 4096]⟩
abbrev S256x4096 : Shape := ⟨2, ![256, 4096]⟩
abbrev S3x256 : Shape := ⟨2, ![3, 256]⟩
abbrev S2048x256 : Shape := ⟨2, ![2048, 256]⟩
abbrev S8x8x256 : Shape := ⟨3, ![8, 8, 256]⟩
abbrev S8x256 : Shape := ⟨2, ![8, 256]⟩
abbrev S1x8x256 : Shape := ⟨3, ![1, 8, 256]⟩
abbrev S512x4096 : Shape := ⟨2, ![512, 4096]⟩
abbrev S512x256 : Shape := ⟨2, ![512, 256]⟩
abbrev S1x256 : Shape := ⟨2, ![1, 256]⟩
abbrev S504x256 : Shape := ⟨2, ![504, 256]⟩

abbrev nBuf : Space → Nat
  | .hbm => 8
  | .vmem => 15
  | .smem => 0
  | _ => 0

abbrev bufTy : (tb : Table) → Fin (tcTables nBuf tb) → BufTy
  | .hbm, ⟨0, _⟩ => ⟨S2x4096x4096, .bf16⟩
  | .hbm, ⟨1, _⟩ => ⟨S4096x11840, .f32⟩
  | .hbm, ⟨2, _⟩ => ⟨S3x2048, .f32⟩
  | .hbm, ⟨3, _⟩ => ⟨S11840x4096, .f32⟩
  | .hbm, ⟨4, _⟩ => ⟨S8192x4096, .f32⟩
  | .hbm, ⟨5, _⟩ => ⟨S8192x4096, .bf16⟩
  | .hbm, ⟨6, _⟩ => ⟨S8192x4096, .bf16⟩
  | .hbm, ⟨7, _⟩ => ⟨S8192x2048, .bf16⟩
  | .local _ .vmem, ⟨0, _⟩ => ⟨S2048x4096, .bf16⟩
  | .local _ .vmem, ⟨1, _⟩ => ⟨S2048x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .bf16⟩
  | .local _ .vmem, ⟨9, _⟩ => ⟨S256x4096, .bf16⟩
  | .local _ .vmem, ⟨10, _⟩ => ⟨S3x256, .f32⟩
  | .local _ .vmem, ⟨11, _⟩ => ⟨S3x256, .f32⟩
  | .local _ .vmem, ⟨12, _⟩ => ⟨S2048x256, .bf16⟩
  | .local _ .vmem, ⟨13, _⟩ => ⟨S2048x256, .bf16⟩
  | .local _ .vmem, ⟨14, _⟩ => ⟨S8x8x256, .f32⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_3 : BitVec 32 := 0#32
  let v10 : BitVec 1 := Scalar.cmpi .eq v9 c0_i32_3
  let v11 : BitVec 32 := Scalar.extui v10
  let c0_i32_4 : BitVec 32 := 0#32
  let v12 : BitVec 1 := Scalar.cmpi .ne v11 c0_i32_4
  v12

def k0_off1 (i : grid0.Coords) : Fin 3 → Nat :=
  let arg1 : BitVec 32 := BitVec.ofNat 32 (i 1).val
  let v243 : Index := Scalar.indexCast arg1
  let c0_107 : Index := 0#32
  let c0_108 : Index := 0#32
  ![v243.toNat, 0, 0]
def k0_off2 (i : grid0.Coords) : Fin 3 → Nat :=
  let arg1 : BitVec 32 := BitVec.ofNat 32 (i 1).val
  let v13 : Index := Scalar.indexCast arg1
  let c0 : Index := 0#32
  let c0_5 : Index := 0#32
  ![v13.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi arg1 c24_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x4096x4096 : Shape := ⟨3, ![2, 4096, 4096]⟩
abbrev S4096x11840 : Shape := ⟨2, ![4096, 11840]⟩
abbrev S3x2048 : Shape := ⟨2, ![3, 2048]⟩
abbrev S2x4096x11840 : Shape := ⟨3, ![2, 4096, 11840]⟩
abbrev S2x4096x2048 : Shape := ⟨3, ![2, 4096, 2048]⟩
abbrev S_ : Shape := ⟨0, ![]⟩
abbrev S2x4098x2048 : Shape := ⟨3, ![2, 4098, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x11840, .f32⟩
  | .hbm, ⟨2, _⟩ => ⟨S3x2048, .f32⟩
  | .hbm, ⟨3, _⟩ => ⟨S2x4096x4096, .f32⟩
  | .hbm, ⟨4, _⟩ => ⟨S2x4096x11840, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2x4096x2048, .f32⟩
  | .hbm, ⟨9, _⟩ => ⟨S2x4096x2048, .f32⟩
  | .hbm, ⟨10, _⟩ => ⟨S_, .i32⟩
  | .hbm, ⟨11, _⟩ => ⟨S_, .f32⟩
  | .hbm, ⟨12, _⟩ => ⟨S2x4098x2048, .f32⟩
  | .hbm, ⟨13, _⟩ => ⟨S1x2048, .f32⟩
  | .hbm, ⟨14, _⟩ => ⟨S2048, .f32⟩
  | .hbm, ⟨15, _⟩ => ⟨S2x4096x2048, .f32⟩
  | .hbm, ⟨16, _⟩ => ⟨S1x1x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096x2048, .f32⟩
  | .hbm, ⟨21, _⟩ => ⟨S2x4096x2048, .f32⟩
  | .hbm, ⟨22, _⟩ => ⟨S1x2048, .f32⟩
  | .hbm, ⟨23, _⟩ => ⟨S2048, .f32⟩
  | .hbm, ⟨24, _⟩ => ⟨S2x4096x2048, .f32⟩
  | .hbm, ⟨25, _⟩ => ⟨S1x1x2048, .f32⟩
  | .hbm, ⟨26, _⟩ => ⟨S2x4096x2048, .f32⟩
  | .hbm, ⟨27, _⟩ => ⟨S2x4096x2048, .f32⟩
  | .hbm, ⟨28, _⟩ => ⟨S2x4096x2048, .f32⟩
  | .hbm, ⟨29, _⟩ => ⟨S1x2048, .f32⟩
  | .hbm, ⟨30, _⟩ => ⟨S2048, .f32⟩
  | .hbm, ⟨31, _⟩ => ⟨S2x4096x2048, .f32⟩
  | .hbm, ⟨32, _⟩ => ⟨S1x1x2048, .f32⟩
  | .hbm, ⟨33, _⟩ => ⟨S2x4096x2048, .f32⟩
  | .hbm, ⟨34, _⟩ => ⟨S2x4096x2048, .f32⟩
  | .hbm, ⟨35, _⟩ => ⟨S2x4096x2048, .f32⟩
  | .hbm, ⟨36, _⟩ => ⟨S2x4096x2048, .f32⟩
  | .hbm, ⟨37, _⟩ => ⟨S2x4096x2048, .f32⟩
  | .hbm, ⟨38, _⟩ => ⟨S2x4096x2048, .f32⟩
  | .hbm, ⟨39, _⟩ => ⟨S_, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096x2048, .f32⟩
  | .hbm, ⟨44, _⟩ => ⟨S2x4096x2048, .f32⟩
  | .hbm, ⟨45, _⟩ => ⟨S2x4096x2048, .f32⟩
  | .hbm, ⟨46, _⟩ => ⟨S2x4096x2048, .f32⟩
  | .hbm, ⟨47, _⟩ => ⟨S8192x2048, .f32⟩
  | .hbm, ⟨48, _⟩ => ⟨S8192x2048, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel3.lean ====
abbrev S2x4096x4096 : Shape := ⟨3, ![2, 4096, 4096]⟩
abbrev S4096x11840 : Shape := ⟨2, ![4096, 11840]⟩
abbrev S11840x4096 : Shape := ⟨2, ![11840, 4096]⟩
abbrev S2048x4096 : Shape := ⟨2, ![2048, 4096]⟩
abbrev S8192x4096 : Shape := ⟨2, ![8192, 4096]⟩
abbrev S8192x2048 : Shape := ⟨2, ![8192, 2048]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x4096, .bf16⟩
  | .hbm, ⟨1, _⟩ => ⟨S4096x11840, .f32⟩
  | .hbm, ⟨2, _⟩ => ⟨S11840x4096, .f32⟩
  | .hbm, ⟨3, _⟩ => ⟨S2048x4096, .f32⟩
  | .hbm, ⟨4, _⟩ => ⟨S2048x4096, .bf16⟩
  | .hbm, ⟨5, _⟩ => ⟨S8192x4096, .bf16⟩
  | .hbm, ⟨6, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S2x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2x4096x4096 : Shape := ⟨3, ![2, 4096, 4096]⟩
abbrev S4096x11840 : Shape := ⟨2, ![4096, 11840]⟩
abbrev S2x4096x11840 : Shape := ⟨3, ![2, 4096, 11840]⟩
abbrev S2x4096x2048 : Shape := ⟨3, ![2, 4096, 2048]⟩
abbrev S_ : Shape := ⟨0, ![]⟩
abbrev S8192x2048 : Shape := ⟨2, ![8192, 2048]⟩

abbrev nBuf : Space → Nat
  | .hbm => 16
  | .vmem => 0
  | .smem => 0
  | _ => 0

abbrev bufTy : (tb : Table) → Fin (tcTables nBuf tb) → BufTy
  | .hbm, ⟨0, _⟩ => ⟨S2x4096x4096, .bf16⟩
  | .hbm, ⟨1, _⟩ => ⟨S4096x11840, .f32⟩
  | .hbm, ⟨2, _⟩ => ⟨S2x4096x4096, .f32⟩
  | .hbm, ⟨3, _⟩ => ⟨S2x4096x11840, .f32⟩
  | .hbm, ⟨4, _⟩ => ⟨S2x4096x2048, .f32⟩
  | .hbm, ⟨5, _⟩ => ⟨S2x4096x2048, .f32⟩
  | .hbm, ⟨6, _⟩ => ⟨S2x4096x2048, .f32⟩
  | .hbm, ⟨7, _⟩ => ⟨S_, .f32⟩
  | .hbm, ⟨8, _⟩ => ⟨S2x4096x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S8192x2048, .f32⟩
  | .hbm, ⟨15, _⟩ => ⟨S8192x2048, .bf16⟩
  | _, _ => ⟨S2x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Kernel4.lean ====
abbrev S2x4096x2048 : Shape := ⟨3, ![2, 4096, 2048]⟩
abbrev S4096x4096 : Shape := ⟨2, ![4096, 4096]⟩
abbrev S2x4096x4096 : Shape := ⟨3, ![2, 4096, 4096]⟩
abbrev S4096 : Shape := ⟨1, ![4096]⟩
abbrev S8192x2048 : Shape := ⟨2, ![8192, 2048]⟩
abbrev S8192x4096 : Shape := ⟨2, ![8192, 4096]⟩
abbrev S1x4096 : Shape := ⟨2, ![1, 4096]⟩
abbrev S256x2048 : Shape := ⟨2, ![256, 2048]⟩
abbrev S256x4096 : Shape := ⟨2, ![256, 4096]⟩
abbrev S256x512 : Shape := ⟨2, ![256, 512]⟩
abbrev S2048x512 : Shape := ⟨2, ![2048, 512]⟩
abbrev S256 : Shape := ⟨1, ![256]⟩
abbrev S256x1 : Shape := ⟨2, ![256, 1]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S4096x4096, .f32⟩
  | .hbm, ⟨3, _⟩ => ⟨S2x4096x4096, .f32⟩
  | .hbm, ⟨4, _⟩ => ⟨S4096, .f32⟩
  | .hbm, ⟨5, _⟩ => ⟨S8192x2048, .bf16⟩
  | .hbm, ⟨6, _⟩ => ⟨S8192x2048, .bf16⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S4096x4096, .bf16⟩
  | .local _ .vmem, ⟨5, _⟩ => ⟨S256x4096, .f32⟩
  | .local _ .vmem, ⟨6, _⟩ => ⟨S256x4096, .f32⟩
  | .local _ .vmem, ⟨7, _⟩ => ⟨S1x4096, .f32⟩
  | .local _ .vmem, ⟨8, _⟩ => ⟨S256x4096, .f32⟩
  | .local _ .vmem, ⟨9, _⟩ => ⟨S256x4096, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x4096x2048 : Shape := ⟨3, ![2, 4096, 2048]⟩
abbrev S4096x4096 : Shape := ⟨2, ![4096, 4096]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .bf16⟩
  | .hbm, ⟨2, _⟩ => ⟨S4096x4096, .f32⟩
  | .hbm, ⟨3, _⟩ => ⟨S2x4096x4096, .f32⟩
  | .hbm, ⟨4, _⟩ => ⟨S4096, .f32⟩
  | .hbm, ⟨5, _⟩ => ⟨S2x4096x2048, .f32⟩
  | .hbm, ⟨6, _⟩ => ⟨S2x4096x2048, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S2x4096x4096, .f32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S2x4096x1, .f32⟩
  | .hbm, ⟨21, _⟩ => ⟨S2x4096x4096, .f32⟩
  | .hbm, ⟨22, _⟩ => ⟨S2x4096x4096, .f32⟩
  | .hbm, ⟨23, _⟩ => ⟨S1x1x4096, .f32⟩
  | .hbm, ⟨24, _⟩ => ⟨S2x4096x4096, .f32⟩
  | .hbm, ⟨25, _⟩ => ⟨S2x4096x4096, .f32⟩
  | .hbm, ⟨26, _⟩ => ⟨S8192x4096, .f32⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel5.lean ====
abbrev S2x4096x1024 : Shape := ⟨3, ![2, 4096, 1024]⟩
abbrev S2x4096x512 : Shape := ⟨3, ![2, 4096, 512]⟩
abbrev S1024x3072 : Shape := ⟨2, ![1024, 3072]⟩
abbrev S512x4096 : Shape := ⟨2, ![512, 4096]⟩
abbrev S4096x32 : Shape := ⟨2, ![4096, 32]⟩
abbrev S1024x16x192 : Shape := ⟨3, ![1024, 16, 192]⟩
abbrev S1024x16x128 : Shape := ⟨3, ![1024, 16, 128]⟩
abbrev S1024x2048 : Shape := ⟨2, ![1024, 2048]⟩
abbrev S1024x16x64 : Shape := ⟨3, ![1024, 16, 64]⟩
abbrev S1024x1024 : Shape := ⟨2, ![1024, 1024]⟩
abbrev S_ : Shape := ⟨0, ![]⟩
abbrev S4096x64 : Shape := ⟨2, ![4096, 64]⟩
abbrev S4096x128 : Shape := ⟨2, ![4096, 128]⟩
abbrev S8192x1024 : Shape := ⟨2, ![8192, 1024]⟩
abbrev S8192x512 : Shape := ⟨2, ![8192, 512]⟩
abbrev S8192x4096 : Shape := ⟨2, ![8192, 4096]⟩
abbrev S8192x2048 : Shape := ⟨2, ![8192, 2048]⟩
abbrev S16x2304x512 : Shape := ⟨3, ![16, 2304, 512]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S1x2304x512 : Shape := ⟨3, ![1, 2304, 512]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩

abbrev nBuf : Space → Nat
  | .hbm => 23
  | .vmem => 17
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x512, .bf16⟩
  | .hbm, ⟨2, _⟩ => ⟨S1024x3072, .f32⟩
  | .hbm, ⟨3, _⟩ => ⟨S512x4096, .f32⟩
  | .hbm, ⟨4, _⟩ => ⟨S4096x32, .f32⟩
  | .hbm, ⟨5, _⟩ => ⟨S4096x32, .f32⟩
  | .hbm, ⟨6, _⟩ => ⟨S1024x16x192, .f32⟩
  | .hbm, ⟨7, _⟩ => ⟨S1024x16x128, .f32⟩
  | .hbm, ⟨8, _⟩ => ⟨S1024x2048, .f32⟩
  | .hbm, ⟨9, _⟩ => ⟨S1024x2048, .bf16⟩
  | .hbm, ⟨10, _⟩ => ⟨S1024x16x64, .f32⟩
  | .hbm, ⟨11, _⟩ => ⟨S1024x1024, .f32⟩
  | .hbm, ⟨12, _⟩ => ⟨S1024x1024, .bf16⟩
  | .hbm, ⟨13, _⟩ => ⟨S512x4096, .bf16⟩
  | .hbm, ⟨14, _⟩ => ⟨S_, .f32⟩
  | .hbm, ⟨15, _⟩ => ⟨S4096x64, .f32⟩
  | .hbm, ⟨16, _⟩ => ⟨S4096x128, .f32⟩
  | .hbm, ⟨17, _⟩ => ⟨S4096x128, .f32⟩
  | .hbm, ⟨18, _⟩ => ⟨S8192x1024, .bf16⟩
  | .hbm, ⟨19, _⟩ => ⟨S8192x512, .bf16⟩
  | .hbm, ⟨20, _⟩ => ⟨S8192x4096, .bf16⟩
  | .hbm, ⟨21, _⟩ => ⟨S8192x2048, .bf16⟩
  | .hbm, ⟨22, _⟩ => ⟨S16x2304x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x2048, .bf16⟩
  | .local _ .vmem, ⟨5, _⟩ => ⟨S1024x1024, .bf16⟩
  | .local _ .vmem, ⟨6, _⟩ => ⟨S512x4096, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x4096, .bf16⟩
  | .local _ .vmem, ⟨12, _⟩ => ⟨S512x4096, .bf16⟩
  | .local _ .vmem, ⟨13, _⟩ => ⟨S512x2048, .bf16⟩
  | .local _ .vmem, ⟨14, _⟩ => ⟨S512x2048, .bf16⟩
  | .local _ .vmem, ⟨15, _⟩ => ⟨S1x2304x512, .bf16⟩
  | .local _ .vmem, ⟨16, _⟩ => ⟨S1x2304x512, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2304x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S2x4096x1024 : Shape := ⟨3, ![2, 4096, 1024]⟩
abbrev S2x4096x512 : Shape := ⟨3, ![2, 4096, 512]⟩
abbrev S1024x3072 : Shape := ⟨2, ![1024, 3072]⟩
abbrev S512x4096 : Shape := ⟨2, ![512, 4096]⟩
abbrev S4096x32 : Shape := ⟨2, ![4096, 32]⟩
abbrev S2x4096x3072 : Shape := ⟨3, ![2, 4096, 3072]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S2x4096x4096 : Shape := ⟨3, ![2, 4096, 4096]⟩
abbrev S2x4096x16x256 : Shape := ⟨4, ![2, 4096, 16, 256]⟩
abbrev S4096x1x32 : Shape := ⟨3, ![4096, 1, 32]⟩
abbrev S2x4096x16x32 : Shape := ⟨4, ![2, 4096, 16, 32]⟩
abbrev S1x4096x1x32 : Shape := ⟨4, ![1, 4096, 1, 32]⟩
abbrev S_ : Shape := ⟨0, ![]⟩
abbrev S2x4096x16x144 : Shape := ⟨4, ![2, 4096, 16, 144]⟩
abbrev S8192x4096 : Shape := ⟨2, ![8192, 4096]⟩
abbrev S8192x2048 : Shape := ⟨2, ![8192, 2048]⟩
abbrev S16x512x16x144 : Shape := ⟨4, ![16, 512, 16, 144]⟩
abbrev S16x16x144x512 : Shape := ⟨4, ![16, 16, 144, 512]⟩
abbrev S16x2304x512 : Shape := ⟨3, ![16, 2304, 512]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x512, .bf16⟩
  | .hbm, ⟨2, _⟩ => ⟨S1024x3072, .f32⟩
  | .hbm, ⟨3, _⟩ => ⟨S512x4096, .f32⟩
  | .hbm, ⟨4, _⟩ => ⟨S4096x32, .f32⟩
  | .hbm, ⟨5, _⟩ => ⟨S4096x32, .f32⟩
  | .hbm, ⟨6, _⟩ => ⟨S2x4096x1024, .f32⟩
  | .hbm, ⟨7, _⟩ => ⟨S2x4096x3072, .f32⟩
  | .hbm, ⟨8, _⟩ => ⟨S2x4096x16x192, .f32⟩
  | .hbm, ⟨9, _⟩ => ⟨S2x4096x16x128, .f32⟩
  | .hbm, ⟨10, _⟩ => ⟨S2x4096x16x64, .f32⟩
  | .hbm, ⟨11, _⟩ => ⟨S2x4096x512, .f32⟩
  | .hbm, ⟨12, _⟩ => ⟨S2x4096x4096, .f32⟩
  | .hbm, ⟨13, _⟩ => ⟨S2x4096x16x256, .f32⟩
  | .hbm, ⟨14, _⟩ => ⟨S2x4096x16x128, .f32⟩
  | .hbm, ⟨15, _⟩ => ⟨S2x4096x16x128, .f32⟩
  | .hbm, ⟨16, _⟩ => ⟨S4096x1x32, .f32⟩
  | .hbm, ⟨17, _⟩ => ⟨S4096x1x32, .f32⟩
  | .hbm, ⟨18, _⟩ => ⟨S2x4096x16x32, .f32⟩
  | .hbm, ⟨19, _⟩ => ⟨S2x4096x16x32, .f32⟩
  | .hbm, ⟨20, _⟩ => ⟨S1x4096x1x32, .f32⟩
  | .hbm, ⟨21, _⟩ => ⟨S2x4096x16x32, .f32⟩
  | .hbm, ⟨22, _⟩ => ⟨S2x4096x16x32, .f32⟩
  | .hbm, ⟨23, _⟩ => ⟨S1x4096x1x32, .f32⟩
  | .hbm, ⟨24, _⟩ => ⟨S2x4096x16x32, .f32⟩
  | .hbm, ⟨25, _⟩ => ⟨S2x4096x16x32, .f32⟩
  | .hbm, ⟨26, _⟩ => ⟨S2x4096x16x32, .f32⟩
  | .hbm, ⟨27, _⟩ => ⟨S1x4096x1x32, .f32⟩
  | .hbm, ⟨28, _⟩ => ⟨S2x4096x16x32, .f32⟩
  | .hbm, ⟨29, _⟩ => ⟨S2x4096x16x32, .f32⟩
  | .hbm, ⟨30, _⟩ => ⟨S1x4096x1x32, .f32⟩
  | .hbm, ⟨31, _⟩ => ⟨S2x4096x16x32, .f32⟩
  | .hbm, ⟨32, _⟩ => ⟨S2x4096x16x32, .f32⟩
  | .hbm, ⟨33, _⟩ => ⟨S2x4096x16x32, .f32⟩
  | .hbm, ⟨34, _⟩ => ⟨S2x4096x16x64, .f32⟩
  | .hbm, ⟨35, _⟩ => ⟨S2x4096x16x192, .f32⟩
  | .hbm, ⟨36, _⟩ => ⟨S_, .f32⟩
  | .hbm, ⟨37, _⟩ => ⟨S2x4096x16x192, .f32⟩
  | .hbm, ⟨38, _⟩ => ⟨S2x4096x16x192, .f32⟩
  | .hbm, ⟨39, _⟩ => ⟨S_, .i32⟩
  | .hbm, ⟨40, _⟩ => ⟨S_, .f32⟩
  | .hbm, ⟨41, _⟩ => ⟨S2x4096x16x256, .f32⟩
  | .hbm, ⟨42, _⟩ => ⟨S_, .f32⟩
  | .hbm, ⟨43, _⟩ => ⟨S_, .f32⟩
  | .hbm, ⟨44, _⟩ => ⟨S2x4096x16x144, .f32⟩
  | .hbm, ⟨45, _⟩ => ⟨S8192x4096, .f32⟩
  | .hbm, ⟨46, _⟩ => ⟨S8192x4096, .bf16⟩
  | .hbm, ⟨47, _⟩ => ⟨S8192x2048, .f32⟩
  | .hbm, ⟨48, _⟩ => ⟨S8192x2048, .bf16⟩
  | .hbm, ⟨49, _⟩ => ⟨S16x512x16x144, .f32⟩
  | .hbm, ⟨50, _⟩ => ⟨S16x16x144x512, .f32⟩
  | .hbm, ⟨51, _⟩ => ⟨S16x2304x512, .f32⟩
  | .hbm, ⟨52, _⟩ => ⟨S16x2304x512, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_v30 : Ref sig .tc := ⟨.hbm, 37, rfl⟩
abbrev main_v31 : Ref sig .tc := ⟨.hbm, 38, rfl⟩
abbrev main_c : Ref sig .tc := ⟨.hbm, 39, rfl⟩
abbrev main_call0_v0 : Ref sig .tc := ⟨.hbm, 40, rfl⟩
abbrev main_v32 : Ref sig .tc := ⟨.hbm, 41, rfl⟩
abbrev main_cst_0 : Ref sig .tc := ⟨.hbm, 42, rfl⟩
abbrev main_call1_v0 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.RmsNorm.lean ====
module

public import Idealize.ShloMosaic.Lib.Pipeline.ValueKit
public import Idealize.ShloMosaic.Lib.Pointwise

/-! Root-mean-square normalisation of one row, over the extended reals.

A row is a function of its column. Dividing a row by the root of its mean square is multiplying it by one number,
and that number is always a nonnegative real, whatever the row holds: so it may be applied before or after a
contraction with a weight column. -/

@[expose] public section

set_option maxRecDepth 16384

noncomputable section
namespace RowNorm
open Idealize.ShloMosaic

/-- The small number added to the mean square. -/
def eps : EReal := Ideal.ofBits FTy.f32 897988541#32

/-- The factor a row is multiplied by: one over the root of (its sum of squares over `len`, plus `eps`). -/
def factor {n : ℕ} (len : EReal) (v : Fin n → EReal) : EReal :=
  Ideal.rsqrt (Ideal.div (∑ k, v k * v k) len + eps)

/-- The normalised row, with a gain per column. -/
def norm {n : ℕ} (len : EReal) (v g : Fin n → EReal) (k : Fin n) : EReal := v k * factor len v * g k

/-- The row length 4096, as the programs spell it. -/
def len4096 : EReal := Ideal.ofBits FTy.f32 1166016512#32

/-- It is the number 4096. -/
theorem len4096_eq : len4096 = ((4096 : ℝ) : EReal) := by
  simp [len4096, Ideal.ofBits, Ideal.ieee, -EReal.coe_mul]; norm_num

/-- The small number is a positive real. -/
theorem eps_pos : ∃ e : ℝ, 0 < e ∧ eps = (e : EReal) := by
  refine ⟨(8796093 : ℝ) / 2 ^ 43, by positivity, ?_⟩
  simp [eps, Ideal.ofBits, Ideal.ieee, -EReal.coe_mul]; norm_num

/-- A square is never negative. -/
theorem sq_nonneg' (x : EReal) : 0 ≤ x * x := by
  induction x using EReal.rec with
  | bot => simp
  | top => simp
  | coe r => rw [← EReal.coe_mul]; exact_mod_cast mul_self_nonneg r

/-- The factor of a row of 4096 columns is a nonnegative real, whatever the row holds. -/
theorem factor_real {n : ℕ} (v : Fin n → EReal) : ∃ r : ℝ, 0 ≤ r ∧ factor len4096 v = (r : EReal) := by
  obtain ⟨e, he, hee⟩ := eps_pos
  have hs : 0 ≤ ∑ k, v k * v k := Finset.sum_nonneg fun k _ => sq_nonneg' (v k)
  rw [factor, len4096_eq, Ideal.div_coe (by norm_num), hee]
  generalize (∑ k, v k * v k) = S at hs ⊢
  induction S using EReal.rec with
  | bot => simp at hs
  | top =>
    refine ⟨0, le_refl _, ?_⟩
    rw [EReal.top_mul_coe_of_pos (by norm_num), EReal.top_add_coe]
    simp
  | coe s =>
    have hs' : (0 : ℝ) ≤ s := by exact_mod_cast hs
    have hp : 0 < s * (1 / 4096) + e := by positivity
    refine ⟨(Real.sqrt (s * (1 / 4096) + e))⁻¹, by positivity, ?_⟩
    rw [← EReal.coe_mul, ← EReal.coe_add, Ideal.rsqrt_coe, if_neg (not_lt.mpr hp.le), if_neg hp.ne']

/-- A nonnegative real factor moves through a sum. -/
theorem sum_mul_real {ι : Type*} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih, mul_comm,
      EReal.left_distrib_of_nonneg_of_ne_top (by exact_mod_cast hr) (EReal.coe_ne_top r), mul_comm, mul_comm _ (∑ k ∈ s, f k)]

/-- Scaling by the row's factor AFTER the contraction with a column `w` is contracting the normalised row. -/
theorem project {n : ℕ} (v g w : Fin n → EReal) :
    (∑ k, v k * g k * w k) * factor len4096 v = ∑ k, norm len4096 v g k * w k := by
  obtain ⟨r, hr, h⟩ := factor_real v
  rw [h, sum_mul_real _ _ r hr]
  refine Finset.sum_congr rfl fun k _ => ?_
  rw [norm, h, mul_right_comm, mul_right_comm (v k)]

/-- The rotary embedding of a row of 64 columns by 32 cosines and sines, followed by 64 columns of zero. -/
def rotate (l : Fin 64 → EReal) (c s : Fin 32 → EReal) (b : Fin 128) : EReal :=
  if h : b.val < 32 then l ⟨b, by omega⟩ * c ⟨b, h⟩ - l ⟨32 + b, by omega⟩ * s ⟨b, h⟩
  else if h' : b.val < 64 then l ⟨b, h'⟩ * c ⟨b - 32, by omega⟩ + l ⟨b - 32, by omega⟩ * s ⟨b - 32, by omega⟩
  else 0

/-! ## The five results, entry by entry, from the argument arrays

Tokens are counted through both sequences: token `r` is position `r % 4096` of sequence `r / 4096`. -/

/-- An array of the two sequences' hidden states. -/
abbrev Hidden := (⟨3, ![2, 4096, 4096]⟩ : Shape).Idx → EReal

/-- The input projection's weights. -/
abbrev Weights := (⟨2, ![4096, 11840]⟩ : Shape).Idx → EReal

/-- Token `r`'s normalised hidden state. -/
def hidden (x : Hidden) (g : (⟨1, ![4096]⟩ : Shape).Idx → EReal) (r : Fin 8192) : Fin 4096 → EReal :=
  norm len4096 (fun k => x (ix3 ⟨r / 4096, by omega⟩ ⟨r % 4096, by omega⟩ k)) (fun k => g (ix1 k))

/-- Token `r`'s projection to column `e`. -/
def latent (x : Hidden) (g : (⟨1, ![4096]⟩ : Shape).Idx → EReal) (w : Weights) (r : Fin 8192) (e : Fin 11840) : EReal :=
  ∑ k, hidden x g r k * w (ix2 k e)

/-- The query latent: columns 8192 to 9215, normalised. -/
def queryLatent (x : Hidden) (g : (⟨1, ![4096]⟩ : Shape).Idx → EReal) (w : Weights)
    (q : (⟨1, ![1024]⟩ : Shape).Idx → EReal) (r : Fin 8192) : Fin 1024 → EReal :=
  norm (Ideal.ofBits FTy.f32 1149239296#32) (fun e => latent x g w r ⟨8192 + e, by omega⟩) (fun e => q (ix1 e))

/-- The key/value latent: columns 9216 to 9727, normalised. -/
def keyLatent (x : Hidden) (g : (⟨1, ![4096]⟩ : Shape).Idx → EReal) (w : Weights)
    (q : (⟨1, ![512]⟩ : Shape).Idx → EReal) (r : Fin 8192) : Fin 512 → EReal :=
  norm (Ideal.ofBits FTy.f32 1140850688#32) (fun e => latent x g w r ⟨9216 + e, by omega⟩) (fun e => q (ix1 e))

/-- The shared key: columns 9728 to 9791, rotated by the token's position, and 64 columns of zero. -/
def rotaryKey (x : Hidden) (g : (⟨1, ![4096]⟩ : Shape).Idx → EReal) (w : Weights)
    (c s : (⟨2, ![4096, 32]⟩ : Shape).Idx → EReal) (r : Fin 8192) : Fin 128 → EReal :=
  rotate (fun e => latent x g w r ⟨9728 + e, by omega⟩) (fun e => c (ix2 ⟨r % 4096, by omega⟩ e))
    (fun e => s (ix2 ⟨r % 4096, by omega⟩ e))

/-- The gate's weights, transposed: row `r` is column `9792 + r` of the projection's weights. -/
def gateWeight (w : Weights) (r : Fin 2048) (k : Fin 4096) : EReal := w (ix2 k ⟨9792 + r, by omega⟩)

end RowNorm
-- ==== Proof.LatentBlocks.lean ====
module

public import proofs.«01_k».proof.Proof.Gen.KernelIdeal.Value
public import proofs.«01_k».proof.Proof.RmsNorm

/-! What one grid point of the latents kernel leaves in its five output blocks, entry by entry.

The point works on its 512 rows in two halves of 256; every entry depends on its own row only. -/

@[expose] public section

set_option maxRecDepth 16384

noncomputable section
namespace Cert.KernelIdeal.Latents
open Cert.KernelIdeal Cert.KernelIdeal.Gen Idealize.ShloMosaic Idealize.ShloMosaic.TcCoe Idealize.SL.Sem
open RowNorm

/-- Entry of the normalised half block. -/
theorem xn_half (g : Vec Ideal S1x4096 .f32) (x : Vec Ideal S256x4096 .f32) (a : Fin 256) (b : Fin 4096) :
    k0_pay6 (F := Ideal) g x (ix2 a b) = norm len4096 (fun k => x (ix2 a k)) (fun k => g (ix2 0 k)) b := by
  pointwise [k0_pay6, k0_pay3, k0_pay4, k0_pay5]
  rfl

/-- Entry of the projected half block: the kernel scales after the product, which is projecting the normalised row. -/
theorem lat_half (g : Vec Ideal S1x4096 .f32) (x : Vec Ideal S256x4096 .f32) (w : Vec Ideal S1664x4096 .bf16)
    (a : Fin 256) (b : Fin 1664) :
    k0_pay7 (F := Ideal) g x w x (ix2 a b)
      = ∑ k, norm len4096 (fun k => x (ix2 a k)) (fun k => g (ix2 0 k)) k * w (ix2 b k) := by
  pointwise [k0_pay7, k0_pay3, k0_pay4, k0_pay5]
  exact project (fun k => x (ix2 a k)) (fun k => g (ix2 0 k)) (fun k => w (ix2 b k))

/-- Entry of the query latent's half block. -/
theorem cq_half (g : Vec Ideal S1x4096 .f32) (x : Vec Ideal S256x4096 .f32) (w : Vec Ideal S1664x4096 .bf16)
    (q : Vec Ideal S1x1024 .f32) (a : Fin 256) (b : Fin 1024) :
    k0_pay11 (F := Ideal) (k0_pay8 g x w x) (k0_pay9 q) (k0_pay10 g x w x) (ix2 a b)
      = norm (Ideal.ofBits FTy.f32 1149239296#32)
          (fun e : Fin 1024 => ∑ k, norm len4096 (fun k => x (ix2 a k)) (fun k => g (ix2 0 k)) k
            * w (ix2 ⟨e, by omega⟩ k)) (fun e => q (ix2 0 e)) b := by
  pointwise [k0_pay11, k0_pay8, k0_pay9, k0_pay10, lat_half]
  rfl

/-- Entry of the key/value latent's half block. -/
theorem ckv_half (g : Vec Ideal S1x4096 .f32) (x : Vec Ideal S256x4096 .f32) (w : Vec Ideal S1664x4096 .bf16)
    (q : Vec Ideal S1x512 .f32) (a : Fin 256) (b : Fin 512) :
    k0_pay12 (F := Ideal) (k0_pay7 g x w x) q (ix2 a b)
      = norm (Ideal.ofBits FTy.f32 1140850688#32)
          (fun e : Fin 512 => ∑ k, norm len4096 (fun k => x (ix2 a k)) (fun k => g (ix2 0 k)) k
            * w (ix2 ⟨1024 + e, by omega⟩ k)) (fun e => q (ix2 0 e)) b := by
  pointwise [k0_pay12, lat_half]
  rfl

/-- Comparing a column number with a bound, as 32-bit words, chooses as comparing the numbers. -/
theorem select_lt (b : Fin 128) (n : ℕ) (hn : n < 128) (u v : EReal) :
    Scalar.select (IntOp.cmpi CmpIPredicate.slt (BitVec.ofNat 32 b) (BitVec.ofNat 32 n)) u v
      = if b.val < n then u else v := by
  word_cmp

/-- Entry of the rotated half block, when the cosine and sine blocks repeat their 32 columns. -/
theorem rotated_half (v : FVec Ideal S256x1664 .f32) (c s : Vec Ideal S256x128 .f32) (a : Fin 256) (b : Fin 128)
    (c' s' : Fin 32 → EReal)
    (hc : ∀ e : Fin 64, c (ix2 a ⟨e, by omega⟩) = c' ⟨e % 32, by omega⟩)
    (hs : ∀ e : Fin 64, s (ix2 a ⟨e, by omega⟩) = s' ⟨e % 32, by omega⟩) :
    k0_pay19 (F := Ideal) (k0_pay13 v) (k0_pay14 c) (k0_pay15 s)
        (iota .tc S256x128 32 [1] iota_S256x128_d1_w32) k0_pay16 (k0_pay17 v) k0_pay18 (ix2 a b)
      = rotate (fun e : Fin 64 => v (ix2 a ⟨1536 + e, by omega⟩)) c' s' b := by
  pointwise [k0_pay19, k0_pay13, k0_pay14, k0_pay15, k0_pay16, k0_pay17, k0_pay18]
  refine (select_lt b 64 (by omega) _ _).trans ?_
  unfold rotate
  by_cases h64 : b.val < 64
  · have hb : c (ix2 a b) = c' ⟨b % 32, by omega⟩ := hc ⟨b, h64⟩
    have hb' : s (ix2 a b) = s' ⟨b % 32, by omega⟩ := hs ⟨b, h64⟩
    rw [if_pos h64, hb, hb']
    refine (congrArg₂ (· + ·) rfl (congrArg₂ (· * ·) (select_lt b 32 (by omega) _ _) rfl)).trans ?_
    by_cases h32 : b.val < 32
    · have e1 : (⟨b % 32, by omega⟩ : Fin 32) = ⟨b, h32⟩ := Fin.ext (Nat.mod_eq_of_lt h32)
      have e2 : (b.val + 128 - 96) % 128 = 32 + b.val := by omega
      rw [if_pos h32, dif_pos h32, e1, zero_sub, sub_eq_add_neg, ← EReal.neg_mul]
      simp only [e2]
    · have e1 : (⟨b % 32, by omega⟩ : Fin 32) = ⟨b - 32, by omega⟩ := Fin.ext (show b.val % 32 = b.val - 32 by omega)
      have e2 : (b.val + 128 - 32) % 128 = b.val - 32 := by omega
      rw [if_neg h32, dif_neg h32, dif_pos h64, e1]
      simp only [e2]
  · rw [if_neg h64, dif_neg (by omega), dif_neg h64]

/-- Entry of the rotary key's half block. -/
theorem kpe_half (g : Vec Ideal S1x4096 .f32) (x : Vec Ideal S256x4096 .f32) (w : Vec Ideal S1664x4096 .bf16)
    (c s : Vec Ideal S256x128 .f32) (a : Fin 256) (b : Fin 128) (c' s' : Fin 32 → EReal)
    (hc : ∀ e : Fin 64, c (ix2 a ⟨e, by omega⟩) = c' ⟨e % 32, by omega⟩)
    (hs : ∀ e : Fin 64, s (ix2 a ⟨e, by omega⟩) = s' ⟨e % 32, by omega⟩) :
    k0_pay19 (F := Ideal) (k0_pay13 (k0_pay7 g x w x)) (k0_pay14 c) (k0_pay15 s)
        (iota .tc S256x128 32 [1] iota_S256x128_d1_w32) k0_pay16 (k0_pay17 (k0_pay7 g x w x)) k0_pay18 (ix2 a b)
      = rotate (fun e : Fin 64 => ∑ k, norm len4096 (fun k => x (ix2 a k)) (fun k => g (ix2 0 k)) k
            * w (ix2 ⟨1536 + e, by omega⟩ k)) c' s' b := by
  rw [rotated_half _ c s a b c' s' hc hs]
  exact congrArg (fun l => rotate l c' s' b) (funext fun e => lat_half g x w a ⟨1536 + e, by omega⟩)

/-! ## The two halves put together -/

section Block
variable (x0 : Vec Ideal S512x4096 .f32) (x1 : Vec Ideal S1x4096 .f32) (x2 : Vec Ideal S1664x4096 .bf16)
  (x3 : Vec Ideal S1x1024 .f32) (x4 : Vec Ideal S1x512 .f32) (x5 x6 : Vec Ideal S512x128 .f32)
  (x7 : Vec Ideal S128x4096 .f32)

/-- Row `r` of the block, as loaded in the first half. -/
theorem row_first (a : Fin 256) (r : Fin 512) (h : r.val = a.val) (k : Fin 4096) :
    (View.ld x0 r0_2 : Vec Ideal S256x4096 .f32) (ix2 a k) = x0 (ix2 r k) := by
  pointwise; exact congrArg x0 (congrArg₂ ix2 (Fin.ext h.symm) rfl)

/-- Row `r` of the block, as loaded in the second half. -/
theorem row_second (a : Fin 256) (r : Fin 512) (h : r.val = 256 + a.val) (k : Fin 4096) :
    (View.ld x0 r0_9 : Vec Ideal S256x4096 .f32) (ix2 a k) = x0 (ix2 r k) := by
  pointwise; exact congrArg x0 (congrArg₂ ix2 (Fin.ext h.symm) rfl)

/-- A cosine or sine row, as loaded in the first half. -/
theorem lane_first (a : Fin 256) (r : Fin 512) (h : r.val = a.val) (k : Fin 128) :
    (View.ld x5 r0_8 : Vec Ideal S256x128 .f32) (ix2 a k) = x5 (ix2 r k) := by
  pointwise; exact congrArg x5 (congrArg₂ ix2 (Fin.ext h.symm) rfl)

/-- A cosine or sine row, as loaded in the second half. -/
theorem lane_second (a : Fin 256) (r : Fin 512) (h : r.val = 256 + a.val) (k : Fin 128) :
    (View.ld x5 r0_12 : Vec Ideal S256x128 .f32) (ix2 a k) = x5 (ix2 r k) := by
  pointwise; exact congrArg x5 (congrArg₂ ix2 (Fin.ext h.symm) rfl)

/-- The gains are loaded whole. -/
theorem gain_whole : (View.ld x1 r0_1 : Vec Ideal S1x4096 .f32) = x1 := by
  funext j; idx_vars j; obtain rfl := Subsingleton.elim j0 0; pointwise

/-- The weights are loaded whole. -/
theorem weight_whole : (View.ld x2 r0_3 : Vec Ideal S1664x4096 .bf16) = x2 := by
  funext j; idx_vars j; pointwise

/-- The query gains are loaded whole. -/
theorem qgain_whole : (View.ld x3 r0_4 : Vec Ideal S1x1024 .f32) = x3 := by
  funext j; idx_vars j; obtain rfl := Subsingleton.elim j0 0; pointwise

/-- The key/value gains are loaded whole. -/
theorem kgain_whole : (View.ld x4 r0_6 : Vec Ideal S1x512 .f32) = x4 := by
  funext j; idx_vars j; obtain rfl := Subsingleton.elim j0 0; pointwise

/-- The normalised row `r` of the block's input. -/
def xnRow (r : Fin 512) : Fin 4096 → EReal := norm len4096 (fun k => x0 (ix2 r k)) (fun k => x1 (ix2 0 k))

/-- Its product with row `e` of the weights. -/
def latRow (r : Fin 512) (e : Fin 1664) : EReal := ∑ k, xnRow x0 x1 r k * x2 (ix2 e k)

/-- The normalised block. -/
theorem xn_block (r : Fin 512) (b : Fin 4096) :
    out0_8 (F := Ideal) x0 x1 x2 x3 x4 x5 x6 x7 (ix2 r b) = xnRow x0 x1 r b := by
  canon_tiles y h
  all_goals idx_vars y
  · obtain rfl : b = y1 := Fin.ext h1
    refine (xn_half (View.ld x1 r0_1) (View.ld x0 r0_9) y0 b).trans ?_
    rw [gain_whole, funext (row_second x0 y0 r h0)]; rfl
  · obtain rfl : b = y1 := Fin.ext h1
    refine (xn_half (View.ld x1 r0_1) (View.ld x0 r0_2) y0 b).trans ?_
    rw [gain_whole, funext (row_first x0 y0 r h0)]; rfl

/-- The query latent's block. -/
theorem cq_block (r : Fin 512) (b : Fin 1024) :
    out0_9 (F := Ideal) x0 x1 x2 x3 x4 x5 x6 x7 (ix2 r b)
      = norm (Ideal.ofBits FTy.f32 1149239296#32) (fun e : Fin 1024 => latRow x0 x1 x2 r ⟨e, by omega⟩)
          (fun e => x3 (ix2 0 e)) b := by
  canon_tiles y h
  all_goals idx_vars y
  · obtain rfl : b = y1 := Fin.ext h1
    refine (cq_half (View.ld x1 r0_1) (View.ld x0 r0_9) (View.ld x2 r0_3) (View.ld x3 r0_4) y0 b).trans ?_
    rw [gain_whole, weight_whole, qgain_whole, funext (row_second x0 y0 r h0)]; rfl
  · obtain rfl : b = y1 := Fin.ext h1
    refine (cq_half (View.ld x1 r0_1) (View.ld x0 r0_2) (View.ld x2 r0_3) (View.ld x3 r0_4) y0 b).trans ?_
    rw [gain_whole, weight_whole, qgain_whole, funext (row_first x0 y0 r h0)]; rfl

/-- The key/value latent's block. -/
theorem ckv_block (r : Fin 512) (b : Fin 512) :
    out0_10 (F := Ideal) x0 x1 x2 x3 x4 x5 x6 x7 (ix2 r b)
      = norm (Ideal.ofBits FTy.f32 1140850688#32) (fun e : Fin 512 => latRow x0 x1 x2 r ⟨1024 + e, by omega⟩)
          (fun e => x4 (ix2 0 e)) b := by
  canon_tiles y h
  all_goals idx_vars y
  · obtain rfl : b = y1 := Fin.ext h1
    refine (ckv_half (View.ld x1 r0_1) (View.ld x0 r0_9) (View.ld x2 r0_3) (View.ld x4 r0_6) y0 b).trans ?_
    rw [gain_whole, weight_whole, kgain_whole, funext (row_second x0 y0 r h0)]; rfl
  · obtain rfl : b = y1 := Fin.ext h1
    refine (ckv_half (View.ld x1 r0_1) (View.ld x0 r0_2) (View.ld x2 r0_3) (View.ld x4 r0_6) y0 b).trans ?_
    rw [gain_whole, weight_whole, kgain_whole, funext (row_first x0 y0 r h0)]; rfl

/-- The rotary key's block. -/
theorem kpe_block (r : Fin 512) (b : Fin 128) (c' s' : Fin 32 → EReal)
    (hc : ∀ e : Fin 64, x5 (ix2 r ⟨e, by omega⟩) = c' ⟨e % 32, by omega⟩)
    (hs : ∀ e : Fin 64, x6 (ix2 r ⟨e, by omega⟩) = s' ⟨e % 32, by omega⟩) :
    out0_11 (F := Ideal) x0 x1 x2 x3 x4 x5 x6 x7 (ix2 r b)
      = rotate (fun e : Fin 64 => latRow x0 x1 x2 r ⟨1536 + e, by omega⟩) c' s' b := by
  canon_tiles y h
  all_goals idx_vars y
  · obtain rfl : b = y1 := Fin.ext h1
    refine (kpe_half (View.ld x1 r0_1) (View.ld x0 r0_9) (View.ld x2 r0_3) (View.ld x5 r0_12) (View.ld x6 r0_12) y0 b c' s'
      (fun e => (lane_second x5 y0 r h0 _).trans (hc e)) (fun e => (lane_second x6 y0 r h0 _).trans (hs e))).trans ?_
    rw [gain_whole, weight_whole, funext (row_second x0 y0 r h0)]; rfl
  · obtain rfl : b = y1 := Fin.ext h1
    refine (kpe_half (View.ld x1 r0_1) (View.ld x0 r0_2) (View.ld x2 r0_3) (View.ld x5 r0_8) (View.ld x6 r0_8) y0 b c' s'
      (fun e => (lane_first x5 y0 r h0 _).trans (hc e)) (fun e => (lane_first x6 y0 r h0 _).trans (hs e))).trans ?_
    rw [gain_whole, weight_whole, funext (row_first x0 y0 r h0)]; rfl

/-- The rounded weights' block: the rows as they came. -/
theorem cast_block (r : Fin 128) (b : Fin 4096) :
    out0_12 (F := Ideal) x0 x1 x2 x3 x4 x5 x6 x7 (ix2 r b) = x7 (ix2 r b) := by
  canon_tiles y h
  idx_vars y
  obtain rfl : b = y1 := Fin.ext h1
  obtain rfl : r = y0 := Fin.ext h0
  pointwise [k0_pay2]
end Block
end Cert.KernelIdeal.Latents
-- ==== Proof.LatentArrays.lean ====
module

public import proofs.«01_k».proof.Proof.LatentBlocks

/-! The latents kernel's five result arrays, entry by entry, from its argument arrays. -/

@[expose] public section

set_option maxRecDepth 16384

noncomputable section
namespace Cert.KernelIdeal.Latents
open Cert.KernelIdeal Cert.KernelIdeal.Gen Idealize.ShloMosaic Idealize.ShloMosaic.TcCoe Idealize.SL.Sem
open Idealize.ShloMosaic.Pipeline (Dat)
open RowNorm

variable (m : (ℓ : Loc nD τ sig) → Buf (Elt Ideal) ℓ) (c : Dev nD)

/-- Which block each window shows at a point. -/
theorem where_at : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val % 8, 0]
    ∧ win0_6.index t = ![t.val % 8, 0] ∧ win0_7.index t = ![9792 + 128 * t.val, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- Row `r` of the hidden states' block at point `t`. -/
theorem x_block (t : Fin cfg0.N) (r : Fin 512) (k : Fin 4096) (h : 512 * t.val + r.val < 8192) :
    iblk m c 0 t (ix2 r k) = m ((c : Thread nD τ).loc main_arg0)
      (ix3 ⟨(512 * t.val + r.val) / 4096, by omega⟩ ⟨(512 * t.val + r.val) % 4096, by omega⟩ k) := by
  blk_ext! [iblk, V, where_at t]

/-- The gains' block. -/
theorem g_block (t : Fin cfg0.N) (k : Fin 4096) :
    iblk m c 1 t (ix2 0 k) = m ((c : Thread nD τ).loc main_arg1) (ix1 k) := by
  blk_ext! [iblk, V, where_at t]

/-- Row `e` of the weights' block: column `8192 + e` of the weights. -/
theorem w_block (t : Fin cfg0.N) (e : Fin 1664) (k : Fin 4096) :
    iblk m c 2 t (ix2 e k) = m ((c : Thread nD τ).loc main_arg2) (ix2 k ⟨8192 + e, by omega⟩) := by
  blk_ext! [iblk, V, where_at t]

/-- The query gains' block. -/
theorem q_block (t : Fin cfg0.N) (k : Fin 1024) :
    iblk m c 3 t (ix2 0 k) = m ((c : Thread nD τ).loc main_arg3) (ix1 k) := by
  blk_ext! [iblk, V, where_at t]

/-- The key/value gains' block. -/
theorem kv_block (t : Fin cfg0.N) (k : Fin 512) :
    iblk m c 4 t (ix2 0 k) = m ((c : Thread nD τ).loc main_arg4) (ix1 k) := by
  blk_ext! [iblk, V, where_at t]

/-- Three pieces laid side by side depend on the pieces alone. -/
theorem side_by_side {x x' y y' : FVec Ideal S4096x32 .f32} {z z' : FVec Ideal S4096x64 .f32} (hx : x = x') (hy : y = y') (hz : z = z') :
    (concatenate S4096x128 1 [⟨S4096x32, x⟩, ⟨S4096x32, y⟩, ⟨S4096x64, z⟩] concatenates_S4096x32_S4096x32_S4096x64_S4096x128_d1 : FVec Ideal S4096x128 .f32)
      = concatenate S4096x128 1 [⟨S4096x32, x'⟩, ⟨S4096x32, y'⟩, ⟨S4096x64, z'⟩] concatenates_S4096x32_S4096x32_S4096x64_S4096x128_d1 := by
  subst hx hy hz; rfl

/-- The cosines as the region finds them: twice the 32 cosines, then zeros. -/
theorem cos_table : V m c main_v5 = (concatenate S4096x128 1 [⟨S4096x32, m ((c : Thread nD τ).loc main_arg5)⟩,
    ⟨S4096x32, m ((c : Thread nD τ).loc main_arg5)⟩, ⟨S4096x64, V m c main_v4⟩]
    concatenates_S4096x32_S4096x32_S4096x64_S4096x128_d1 : FVec Ideal S4096x128 .f32) := by
  dsimp only [V, hostOps0]
  after_results
  refine side_by_side ?_ ?_ ?_
  · exact V_main_arg5 m c
  · exact V_main_arg5 m c
  · rfl

/-- The sines as the region finds them: twice the 32 sines, then zeros. -/
theorem sin_table : V m c main_v6 = (concatenate S4096x128 1 [⟨S4096x32, m ((c : Thread nD τ).loc main_arg6)⟩,
    ⟨S4096x32, m ((c : Thread nD τ).loc main_arg6)⟩, ⟨S4096x64, V m c main_v4⟩]
    concatenates_S4096x32_S4096x32_S4096x64_S4096x128_d1 : FVec Ideal S4096x128 .f32) := by
  dsimp only [V, hostOps0]
  after_results
  refine side_by_side ?_ ?_ ?_
  · exact V_main_arg6 m c
  · exact V_main_arg6 m c
  · rfl

/-- A column of the first 64 is the piece's column modulo 32. -/
theorem table_at (x : FVec Ideal S4096x32 .f32) (z : FVec Ideal S4096x64 .f32) (r : Fin 4096) (e : Fin 64) : (concatenate S4096x128 1 [⟨S4096x32, x⟩, ⟨S4096x32, x⟩,
    ⟨S4096x64, z⟩]
    concatenates_S4096x32_S4096x32_S4096x64_S4096x128_d1 : FVec Ideal S4096x128 .f32) (ix2 r ⟨e, by omega⟩) = x (ix2 r ⟨e % 32, by omega⟩) := by
  pointwise
  by_cases h : (e : ℕ) < 32
  · rw [dif_pos h]; exact congrArg (fun k => x (ix2 r k)) (Fin.ext (Nat.mod_eq_of_lt h).symm)
  · rw [dif_neg h, dif_pos (by omega)]
    exact congrArg (fun k => x (ix2 r k)) (Fin.ext (by show (e : ℕ) - 32 = e % 32; omega))
/-- The cosines' block: the 32 cosines of a position, twice, in its first 64 columns. -/
theorem cos_block (t : Fin cfg0.N) (r : Fin 512) (e : Fin 64) (h : 512 * t.val + r.val < 8192) :
    iblk m c 5 t (ix2 r ⟨e, by omega⟩) = m ((c : Thread nD τ).loc main_arg5)
      (ix2 ⟨(512 * t.val + r.val) % 4096, by omega⟩ ⟨e % 32, by omega⟩) := by
  have hi : ((cfg0.win 5).blk t).view.emb (ix2 r ⟨e, by omega⟩)
      = ix2 (⟨(512 * t.val + r.val) % 4096, by omega⟩ : Fin 4096) (⟨e, by omega⟩ : Fin 128) := by
    blk_ext [where_at t]
  refine (congrArg (V m c (Pipeline.arrRef spec0 5)) hi).trans ?_
  show V m c main_v5 _ = _
  rw [cos_table]
  exact table_at _ _ _ e

/-- The sines' block: the 32 sines of a position, twice, in its first 64 columns. -/
theorem sin_block (t : Fin cfg0.N) (r : Fin 512) (e : Fin 64) (h : 512 * t.val + r.val < 8192) :
    iblk m c 6 t (ix2 r ⟨e, by omega⟩) = m ((c : Thread nD τ).loc main_arg6)
      (ix2 ⟨(512 * t.val + r.val) % 4096, by omega⟩ ⟨e % 32, by omega⟩) := by
  have hi : ((cfg0.win 6).blk t).view.emb (ix2 r ⟨e, by omega⟩)
      = ix2 (⟨(512 * t.val + r.val) % 4096, by omega⟩ : Fin 4096) (⟨e, by omega⟩ : Fin 128) := by
    blk_ext [where_at t]
  refine (congrArg (V m c (Pipeline.arrRef spec0 6)) hi).trans ?_
  show V m c main_v6 _ = _
  rw [sin_table]
  exact table_at _ _ _ e

/-- The gate weights' rows shown at point `t`: they start at row `9792 + 128 t` of the transposed weights. -/
theorem cast_in_block (t : Fin cfg0.N) (r : Fin 128) (k : Fin 4096) (h : 128 * t.val + r.val < 2048) :
    iblk m c 7 t (ix2 r k) = m ((c : Thread nD τ).loc main_arg2) (ix2 k ⟨9792 + (128 * t.val + r.val), by omega⟩) := by
  have hi : ((cfg0.win 7).blk t).view.emb (ix2 r k)
      = ix2 (⟨9792 + (128 * t.val + r.val), by omega⟩ : Fin 11840) (⟨k, by omega⟩ : Fin 4096) := by
    funext a
    apply Fin.ext
    have h7 := (where_at t).2.2.2.2.2.2.2.1
    refine (Pipeline.Window.rect_emb_val_off win0_7 t (ix2 r k) a).trans ?_
    rw [h7]
    match a with
    | ⟨0, _⟩ => show 9792 + 128 * t.val + r.val = 9792 + (128 * t.val + r.val); omega
    | ⟨1, _⟩ => show 0 + k.val = k.val; omega
  refine (congrArg (V m c (Pipeline.arrRef spec0 7)) hi).trans ?_
  show V m c main_v1 _ = _
  entry_read
  pointwise

end Cert.KernelIdeal.Latents
-- ==== Proof.LatentResults.lean ====
module

public import proofs.«01_k».proof.Proof.LatentArrays
public import proofs.«01_k».proof.Proof.Gen.KernelIdeal.Value

/-! The latents kernel's five result arrays, entry by entry, in terms of its arguments. -/

@[expose] public section

set_option maxRecDepth 16384

noncomputable section
namespace Cert.KernelIdeal.Latents
open Cert.KernelIdeal Cert.KernelIdeal.Gen Idealize.ShloMosaic Idealize.ShloMosaic.TcCoe Idealize.SL.Sem
open Idealize.ShloMosaic.Pipeline (Dat)
open RowNorm

variable (m : (ℓ : Loc nD τ sig) → Buf (Elt Ideal) ℓ) (c : Dev nD)

/-- Row `r` of point `t`'s block, normalised, is token `512 t + r`'s normalised hidden state. -/
theorem row_of (t : Fin cfg0.N) (r : Fin 512) (h : 512 * t.val + r.val < 8192) :
    xnRow (iblk m c 0 t) (iblk m c 1 t) r
      = hidden (m ((c : Thread nD τ).loc main_arg0)) (m ((c : Thread nD τ).loc main_arg1)) ⟨512 * t.val + r.val, h⟩ := by
  unfold xnRow RowNorm.hidden
  exact congrArg₂ (norm len4096) (funext fun k => x_block m c t r k h) (funext fun k => g_block m c t k)

/-- Its product with row `e` of the weights' block is that token's projection to column `8192 + e`. -/
theorem lat_of (t : Fin cfg0.N) (r : Fin 512) (e : Fin 1664) (h : 512 * t.val + r.val < 8192) :
    latRow (iblk m c 0 t) (iblk m c 1 t) (iblk m c 2 t) r e
      = latent (m ((c : Thread nD τ).loc main_arg0)) (m ((c : Thread nD τ).loc main_arg1)) (m ((c : Thread nD τ).loc main_arg2))
          ⟨512 * t.val + r.val, h⟩ ⟨8192 + e.val, by omega⟩ := by
  unfold latRow latent
  exact Finset.sum_congr rfl fun k _ => congrArg₂ (· * ·) (congrFun (row_of m c t r h) k) (w_block m c t e k)

/-- The grid has 16 points. -/
theorem points (t : Fin cfg0.N) : t.val < 16 := t.isLt.trans_eq (by decide +kernel)

/-- The normalised hidden states. -/
theorem xn_array : (dats m 0 c).arrAt 8 cfg0.N = (fun i : S8192x4096.Idx =>
    RowNorm.hidden (m ((c : Thread nD τ).loc main_arg0)) (m ((c : Thread nD τ).loc main_arg1)) (i 0) (i 1)) := by
  refine (dats m 0 c).arrAt_eq_of_covers 8 _ (by decide +kernel) fun t _ y => ?_
  blk_simp
  rw [after0_8]
  idx_vars y
  have hr : 512 * t.val + y0.val < 8192 := by have := points t; omega
  have hi : ((View.whole main_v10_0).slice (win0_8.rect t)).emb (ix2 y0 y1) = ix2 (⟨512 * t.val + y0.val, hr⟩ : Fin 8192) y1 := by
    blk_ext [where_at t]
  refine (xn_block _ _ _ _ _ _ _ _ y0 y1).trans ?_
  refine Eq.trans ?_ (congrArg (fun i : S8192x4096.Idx => RowNorm.hidden (m ((c : Thread nD τ).loc main_arg0)) (m ((c : Thread nD τ).loc main_arg1)) (i 0) (i 1)) hi).symm
  exact congrFun (row_of m c t y0 hr) y1

/-- The query latents. -/
theorem cq_array : (dats m 0 c).arrAt 9 cfg0.N = (fun i : S8192x1024.Idx =>
    queryLatent (m ((c : Thread nD τ).loc main_arg0)) (m ((c : Thread nD τ).loc main_arg1)) (m ((c : Thread nD τ).loc main_arg2)) (m ((c : Thread nD τ).loc main_arg3)) (i 0) (i 1)) := by
  refine (dats m 0 c).arrAt_eq_of_covers 9 _ (by decide +kernel) fun t _ y => ?_
  blk_simp
  rw [after0_9]
  idx_vars y
  have hr : 512 * t.val + y0.val < 8192 := by have := points t; omega
  have hi : ((View.whole main_v10_1).slice (win0_9.rect t)).emb (ix2 y0 y1) = ix2 (⟨512 * t.val + y0.val, hr⟩ : Fin 8192) y1 := by
    blk_ext [where_at t]
  refine (cq_block _ _ _ _ _ _ _ _ y0 y1).trans ?_
  refine Eq.trans ?_ (congrArg (fun i : S8192x1024.Idx => queryLatent (m ((c : Thread nD τ).loc main_arg0)) (m ((c : Thread nD τ).loc main_arg1)) (m ((c : Thread nD τ).loc main_arg2)) (m ((c : Thread nD τ).loc main_arg3)) (i 0) (i 1)) hi).symm
  unfold queryLatent
  exact congrFun (congrArg₂ (norm _) (funext fun e => lat_of m c t y0 ⟨e, by omega⟩ hr) (funext fun e => q_block m c t e)) y1

/-- The key/value latents. -/
theorem ckv_array : (dats m 0 c).arrAt 10 cfg0.N = (fun i : S8192x512.Idx =>
    keyLatent (m ((c : Thread nD τ).loc main_arg0)) (m ((c : Thread nD τ).loc main_arg1)) (m ((c : Thread nD τ).loc main_arg2)) (m ((c : Thread nD τ).loc main_arg4)) (i 0) (i 1)) := by
  refine (dats m 0 c).arrAt_eq_of_covers 10 _ (by decide +kernel) fun t _ y => ?_
  blk_simp
  rw [after0_10]
  idx_vars y
  have hr : 512 * t.val + y0.val < 8192 := by have := points t; omega
  have hi : ((View.whole main_v10_2).slice (win0_10.rect t)).emb (ix2 y0 y1) = ix2 (⟨512 * t.val + y0.val, hr⟩ : Fin 8192) y1 := by
    blk_ext [where_at t]
  refine (ckv_block _ _ _ _ _ _ _ _ y0 y1).trans ?_
  refine Eq.trans ?_ (congrArg (fun i : S8192x512.Idx => keyLatent (m ((c : Thread nD τ).loc main_arg0)) (m ((c : Thread nD τ).loc main_arg1)) (m ((c : Thread nD τ).loc main_arg2)) (m ((c : Thread nD τ).loc main_arg4)) (i 0) (i 1)) hi).symm
  unfold keyLatent
  exact congrFun (congrArg₂ (norm _) (funext fun e => (lat_of m c t y0 ⟨1024 + e, by omega⟩ hr).trans
    (congrArg (latent _ _ _ _) (Fin.ext (by show 8192 + (1024 + e.val) = 9216 + e.val; omega)))) (funext fun e => kv_block m c t e)) y1

/-- The rotated shared key. -/
theorem kpe_array : (dats m 0 c).arrAt 11 cfg0.N = (fun i : S8192x128.Idx =>
    rotaryKey (m ((c : Thread nD τ).loc main_arg0)) (m ((c : Thread nD τ).loc main_arg1)) (m ((c : Thread nD τ).loc main_arg2)) (m ((c : Thread nD τ).loc main_arg5)) (m ((c : Thread nD τ).loc main_arg6)) (i 0) (i 1)) := by
  refine (dats m 0 c).arrAt_eq_of_covers 11 _ (by decide +kernel) fun t _ y => ?_
  blk_simp
  rw [after0_11]
  idx_vars y
  have hr : 512 * t.val + y0.val < 8192 := by have := points t; omega
  have hi : ((View.whole main_v10_3).slice (win0_11.rect t)).emb (ix2 y0 y1) = ix2 (⟨512 * t.val + y0.val, hr⟩ : Fin 8192) y1 := by
    blk_ext [where_at t]
  refine (kpe_block _ _ _ _ _ _ _ _ y0 y1
    (fun e => m ((c : Thread nD τ).loc main_arg5) (ix2 ⟨(512 * t.val + y0.val) % 4096, by omega⟩ e))
    (fun e => m ((c : Thread nD τ).loc main_arg6) (ix2 ⟨(512 * t.val + y0.val) % 4096, by omega⟩ e)) (fun e => cos_block m c t y0 e hr) (fun e => sin_block m c t y0 e hr)).trans ?_
  refine Eq.trans ?_ (congrArg (fun i : S8192x128.Idx => rotaryKey (m ((c : Thread nD τ).loc main_arg0)) (m ((c : Thread nD τ).loc main_arg1)) (m ((c : Thread nD τ).loc main_arg2)) (m ((c : Thread nD τ).loc main_arg5)) (m ((c : Thread nD τ).loc main_arg6)) (i 0) (i 1)) hi).symm
  unfold rotaryKey
  exact congrArg (fun l => rotate l _ _ y1) (funext fun e => (lat_of m c t y0 ⟨1536 + e, by omega⟩ hr).trans
    (congrArg (latent _ _ _ _) (Fin.ext (by show 8192 + (1536 + e.val) = 9728 + e.val; omega))))

/-- The gate's weights, transposed. -/
theorem gate_array : (dats m 0 c).arrAt 12 cfg0.N = (fun i : S2048x4096.Idx =>
    gateWeight (m ((c : Thread nD τ).loc main_arg2)) (i 0) (i 1)) := by
  refine (dats m 0 c).arrAt_eq_of_covers 12 _ (by decide +kernel) fun t _ y => ?_
  blk_simp
  rw [after0_12]
  idx_vars y
  have hr : 128 * t.val + y0.val < 2048 := by have := points t; omega
  have hi : ((View.whole main_v10_4).slice (win0_12.rect t)).emb (ix2 y0 y1) = ix2 (⟨128 * t.val + y0.val, hr⟩ : Fin 2048) y1 := by
    blk_ext [where_at t]
  refine (cast_block _ _ _ _ _ _ _ _ y0 y1).trans ?_
  refine Eq.trans ?_ (congrArg (fun i : S2048x4096.Idx => gateWeight (m ((c : Thread nD τ).loc main_arg2)) (i 0) (i 1)) hi).symm
  exact cast_in_block m c t y0 y1 hr

/-- The run with its five results named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v10_0) = (fun i : S8192x4096.Idx => RowNorm.hidden (m ((c : Thread nD τ).loc main_arg0)) (m ((c : Thread nD τ).loc main_arg1)) (i 0) (i 1))
      ∧ r.2.mem ((c : Thread nD τ).loc main_v10_1) = (fun i : S8192x1024.Idx => queryLatent (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v10_2) = (fun i : S8192x512.Idx => keyLatent (m ((c : Thread nD τ).loc main_arg0)) (m ((c : Thread nD τ).loc main_arg1)) (m ((c : Thread nD τ).loc main_arg2)) (m ((c : Thread nD τ).loc main_arg4)) (i 0) (i 1))
      ∧ r.2.mem ((c : Thread nD τ).loc main_v10_3) = (fun i : S8192x128.Idx => rotaryKey (m ((c : Thread nD τ).loc main_arg0)) (m ((c : Thread nD τ).loc main_arg1)) (m ((c : Thread nD τ).loc main_arg2)) (m ((c : Thread nD τ).loc main_arg5)) (m ((c : Thread nD τ).loc main_arg6)) (i 0) (i 1))
      ∧ r.2.mem ((c : Thread nD τ).loc main_v10_4) = (fun i : S2048x4096.Idx => gateWeight (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨(h c).1.trans (xn_array m c), (h c).2.1.trans (cq_array m c), (h c).2.2.1.trans (ckv_array m c),
      (h c).2.2.2.1.trans (kpe_array m c), (h c).2.2.2.2.1.trans (gate_array m c), (h c).2.2.2.2.2⟩) (Value.run_blocks m ρ)

end Cert.KernelIdeal.Latents
-- ==== Proof.LatentReference.lean ====
module

public import proofs.«01_k».proof.Proof.RmsNorm
public import proofs.«01_k».proof.Proof.Gen.ReferenceIdeal.Read
public import proofs.«01_k».proof.Proof.Gen.ReferenceIdeal.Run
public import Idealize.ShloMosaic.Lib.Pipeline.ValueKit
public import Idealize.ShloMosaic.Lib.Pointwise

/-! The reference's five results, entry by entry, are the same functions of the arguments. -/

@[expose] public section

set_option maxRecDepth 16384

noncomputable section
namespace Cert.ReferenceIdeal.Latents
open Cert.ReferenceIdeal Cert.ReferenceIdeal.Gen Cert.ReferenceIdeal.Read Idealize.ShloMosaic Idealize.ShloMosaic.TcCoe Idealize.SL.Sem
open RowNorm

variable (x : FVec Ideal S2x4096x4096 .f32) (g : FVec Ideal S4096 .f32) (w : FVec Ideal S4096x11840 .f32)

/-- The normalised input at position `s` of sequence `p`. -/
theorem normalised (p : Fin 2) (s b : Fin 4096) :
    val_main_v12 (F := Ideal) x g (ix3 p s b) = norm len4096 (fun k => x (ix3 p s k)) (fun k => g (ix1 k)) b := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The normalised input of token `r`. -/
theorem normalised_row (r : Fin 8192) (k : Fin 4096) :
    val_main_v12 (F := Ideal) x g (ix3 ⟨r / 4096, by omega⟩ ⟨r % 4096, by omega⟩ k) = RowNorm.hidden x g r k :=
  normalised x g _ _ k

/-- A product of a normalised row with a column is the token's projection to it. -/
theorem projected (r : Fin 8192) (e : Fin 11840) (f : Fin 4096 → EReal) (hf : ∀ k, f k = RowNorm.hidden x g r k) :
    ∑ k, f k * w (ix2 k e) = latent x g w r e :=
  Finset.sum_congr rfl fun k _ => congrArg (· * _) (hf k)

/-- The first result. -/
theorem xn_at (r : Fin 8192) (b : Fin 4096) : val_main_v37 (F := Ideal) x g (ix2 r b) = RowNorm.hidden x g r b := by
  pointwise [val_main_v37, val_main_v36]
  exact normalised_row x g r b

/-- The projection of token `r` to the column `e`. -/
theorem proj_at (r : Fin 8192) (e : Fin 11840) :
    val_main_v13 (F := Ideal) x g w (ix3 ⟨r / 4096, by omega⟩ ⟨r % 4096, by omega⟩ e) = latent x g w r e := by
  pointwise [val_main_v13]
  exact projected x g w r e _ (normalised_row x g r)

/-- The query latents. -/
theorem cq_at (q : FVec Ideal S1024 .f32) (r : Fin 8192) (b : Fin 1024) :
    val_main_v52 (F := Ideal) x g w q (ix2 r b) = queryLatent x g w q r b := by
  pointwise [val_main_v52, val_main_v51, val_main_v50, val_main_v49, val_main_v48, val_main_v47, val_main_v46, val_main_v45, val_main_v44, val_main_v43, val_main_v42, val_main_v41, val_main_v40, val_main_v39, val_main_v38, val_main_cst_2, val_main_cst_3, val_main_cst_4, val_main_v14]
  simp only [proj_at]
  rfl

/-- The key/value latents. -/
theorem ckv_at (q : FVec Ideal S512 .f32) (r : Fin 8192) (b : Fin 512) :
    val_main_v67 (F := Ideal) x g w q (ix2 r b) = keyLatent x g w q r b := by
  pointwise [val_main_v67, val_main_v66, val_main_v65, val_main_v64, val_main_v63, val_main_v62, val_main_v61, val_main_v60, val_main_v59, val_main_v58, val_main_v57, val_main_v56, val_main_v55, val_main_v54, val_main_v53, val_main_cst_5, val_main_cst_6, val_main_cst_7, val_main_v15]
  simp only [proj_at]
  rfl

/-- The rotation read off its three ranges of columns, the columns counted from `9728`. -/
theorem rotate_eq (f : Fin 11840 → EReal) (c s : Fin 32 → EReal) (r : Fin 8192) (b : Fin 128) (z : EReal) (hz : z = 0) :
    (if h : (r : ℕ) / 4096 < 2 ∧ (r : ℕ) % 4096 < 4096 ∧ (b : ℕ) < 64 then
      if h' : (b : ℕ) < 32 then f ⟨9728 + b, by omega⟩ * c ⟨b, h'⟩ - f ⟨9728 + (32 + b), by omega⟩ * s ⟨b, h'⟩
      else f ⟨9728 + (32 + (b - 32)), by omega⟩ * c ⟨b - 32, by omega⟩ + f ⟨9728 + (b - 32), by omega⟩ * s ⟨b - 32, by omega⟩
     else z) = rotate (fun e => f ⟨9728 + e, by omega⟩) c s b := by
  by_cases h : (b : ℕ) < 64
  · by_cases h' : (b : ℕ) < 32
    · rw [dif_pos ⟨by omega, by omega, h⟩, dif_pos h', rotate, dif_pos h']
    · have e : f ⟨9728 + (32 + ((b : ℕ) - 32)), by omega⟩ = f ⟨9728 + (b : ℕ), by omega⟩ := congrArg f (Fin.ext (by
        show 9728 + (32 + ((b : ℕ) - 32)) = 9728 + (b : ℕ); omega))
      rw [dif_pos ⟨by omega, by omega, h⟩, dif_neg h', rotate, dif_neg h', dif_pos h, e]
  · rw [dif_neg (fun q => h q.2.2), rotate, dif_neg (by omega), dif_neg h, hz]

/-- The shared key. -/
theorem kpe_at (c s : FVec Ideal S4096x32 .f32) (r : Fin 8192) (b : Fin 128) :
    val_main_v69 (F := Ideal) x g w c s (ix2 r b) = rotaryKey x g w c s r b := by
  pointwise [val_main_v69, val_main_v68, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v16, val_main_call0_v0, val_main_c]
  simp only [proj_at]
  refine rotate_eq (latent x g w r) (fun e => c (ix2 ⟨r % 4096, by omega⟩ e)) (fun e => s (ix2 ⟨r % 4096, by omega⟩ e)) r b _ ?_
  simp [FloatOps.sitofp]

/-- The gate's weights. -/
theorem gate_at (r : Fin 2048) (b : Fin 4096) : val_main_v71 (F := Ideal) w (ix2 r b) = gateWeight w r b := by
  pointwise [val_main_v71, val_main_v70, val_main_v17]
  rfl

/-- The array of `xn_at`. -/
theorem xn_array : val_main_v37 (F := Ideal) x g = (fun i : S8192x4096.Idx => RowNorm.hidden x g (i 0) (i 1)) := by
  funext i
  idx_vars i
  exact xn_at x g i0 i1

/-- The array of `cq_at`. -/
theorem cq_array (q : FVec Ideal S1024 .f32) : val_main_v52 (F := Ideal) x g w q = (fun i : S8192x1024.Idx => queryLatent x g w q (i 0) (i 1)) := by
  funext i
  idx_vars i
  exact cq_at x g w q i0 i1

/-- The array of `ckv_at`. -/
theorem ckv_array (q : FVec Ideal S512 .f32) : val_main_v67 (F := Ideal) x g w q = (fun i : S8192x512.Idx => keyLatent x g w q (i 0) (i 1)) := by
  funext i
  idx_vars i
  exact ckv_at x g w q i0 i1

/-- The array of `kpe_at`. -/
theorem kpe_array (c s : FVec Ideal S4096x32 .f32) : val_main_v69 (F := Ideal) x g w c s = (fun i : S8192x128.Idx => rotaryKey x g w c s (i 0) (i 1)) := by
  funext i
  idx_vars i
  exact kpe_at x g w c s i0 i1

/-- The array of `gate_at`. -/
theorem gate_array : val_main_v71 (F := Ideal) w = (fun i : S2048x4096.Idx => gateWeight w (i 0) (i 1)) := by
  funext i
  idx_vars i
  exact gate_at w i0 i1

variable (m : (ℓ : Loc nD τ sig) → Buf (Elt Ideal) ℓ)

/-- The reference's run with its five results named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v37) = (fun i : S8192x4096.Idx => RowNorm.hidden (m ((c : Thread nD τ).loc main_arg0)) (m ((c : Thread nD τ).loc main_arg1)) (i 0) (i 1))
      ∧ r.2.mem ((c : Thread nD τ).loc main_v52) = (fun i : S8192x1024.Idx => queryLatent (m ((c : Thread nD τ).loc main_arg0)) (m ((c : Thread nD τ).loc main_arg1)) (m ((c : Thread nD τ).loc main_arg2)) (m ((c : Thread nD τ).loc main_arg3)) (i 0) (i 1))
      ∧ r.2.mem ((c : Thread nD τ).loc main_v67) = (fun i : S8192x512.Idx => keyLatent (m ((c : Thread nD τ).loc main_arg0)) (m ((c : Thread nD τ).loc main_arg1)) (m ((c : Thread nD τ).loc main_arg2)) (m ((c : Thread nD τ).loc main_arg4)) (i 0) (i 1))
      ∧ r.2.mem ((c : Thread nD τ).loc main_v69) = (fun i : S8192x128.Idx => rotaryKey (m ((c : Thread nD τ).loc main_arg0)) (m ((c : Thread nD τ).loc main_arg1)) (m ((c : Thread nD τ).loc main_arg2)) (m ((c : Thread nD τ).loc main_arg5)) (m ((c : Thread nD τ).loc main_arg6)) (i 0) (i 1))
      ∧ r.2.mem ((c : Thread nD τ).loc main_v71) = (fun i : S2048x4096.Idx => gateWeight (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).1.trans (val_main_v37_eq _ _)).trans (xn_array _ _),
      ((h c).2.1.trans (val_main_v52_eq _ _ _ _)).trans (cq_array _ _ _ _),
      ((h c).2.2.1.trans (val_main_v67_eq _ _ _ _)).trans (ckv_array _ _ _ _),
      ((h c).2.2.2.1.trans (val_main_v69_eq m c)).trans (kpe_array _ _ _ _ _),
      ((h c).2.2.2.2.1.trans (val_main_v71_eq _)).trans (gate_array _), (h c).2.2.2.2.2⟩) (Value.run m ρ)

end Cert.ReferenceIdeal.Latents
-- ==== Proof.Silu.lean ====
module

public import Idealize.ShloMosaic.Lib.Pipeline.ValueKit
public import Idealize.ShloMosaic.Lib.Pointwise

/-! The gating function `z ↦ z / (1 + e^(-z))` over the extended reals, and its hyperbolic-tangent form. -/

@[expose] public section

noncomputable section
namespace Gating
open Idealize.ShloMosaic

/-- One half, as the programs spell it. -/
def half : EReal := Ideal.ofBits FTy.f32 1056964608#32

theorem half_eq : half = ((1 / 2 : ℝ) : EReal) := by
  simp [half, Ideal.ofBits, Ideal.ieee, -EReal.coe_mul]; norm_num

theorem one_eq : (1 : EReal) = ((1 : ℝ) : EReal) := rfl

/-- The number times its logistic value. -/
def silu (z : EReal) : EReal := z * Ideal.div 1 (1 + Ideal.exp (-z))

/-- The logistic value is half of one more than the hyperbolic tangent of half the number, at a real. -/
theorem logistic_real (r : ℝ) : 1 / (1 + Real.exp (-r)) = 1 / 2 * (Real.tanh (1 / 2 * r) + 1) := by
  have hp := Real.exp_pos (1 / 2 * r)
  have hn := Real.exp_pos (-(1 / 2 * r))
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  rw [Real.tanh_eq_sinh_div_cosh, Real.sinh_eq, Real.cosh_eq, h]
  generalize Real.exp (1 / 2 * r) = a at *
  generalize Real.exp (-(1 / 2 * r)) = b at *
  have ha : a = 1 / b := by field_simp; linarith
  subst ha
  field_simp
  ring

/-- The hyperbolic-tangent form, at every extended real. -/
theorem silu_tanh (z : EReal) : z * (half * (Ideal.tanh (half * z) + 1)) = silu z := by
  rw [silu, half_eq, one_eq]
  induction z using EReal.rec with
  | bot =>
    congr 1
    rw [EReal.coe_mul_bot_of_pos (by norm_num), Ideal.tanh_bot, EReal.neg_bot, Ideal.exp_top]
    rw [EReal.coe_add_top]
    have h : (-1 : EReal) + ((1 : ℝ) : EReal) = 0 := by
      rw [show (-1 : EReal) = ((-1 : ℝ) : EReal) from by simp, ← EReal.coe_add]; norm_num
    rw [h]
    simp [Ideal.div]
  | top =>
    congr 1
    rw [EReal.coe_mul_top_of_pos (by norm_num), Ideal.tanh_top, EReal.neg_top, Ideal.exp_bot, add_zero, Ideal.div_coe (by norm_num)]
    norm_cast
    norm_num
  | coe r =>
    congr 1
    rw [← EReal.coe_mul, Ideal.tanh_coe, ← EReal.coe_add, ← EReal.coe_mul, ← EReal.coe_neg, Ideal.exp_coe, ← EReal.coe_add,
      Ideal.div_coe (by positivity), ← EReal.coe_mul]
    rw [one_mul, ← logistic_real]

/-- The gate of token `r` (position `r % 4096` of sequence `r / 4096`): its projection to column `9792 + b`, gated by itself. -/
def gate (x : (⟨3, ![2, 4096, 4096]⟩ : Shape).Idx → EReal) (w : (⟨2, ![4096, 11840]⟩ : Shape).Idx → EReal)
    (r : Fin 8192) (b : Fin 2048) : EReal :=
  silu (∑ k : Fin 4096, x (ix3 ⟨r / 4096, by omega⟩ ⟨r % 4096, by omega⟩ k) * w (ix2 k ⟨9792 + b, by omega⟩))

end Gating
-- ==== Proof.Gate.lean ====
module

public import proofs.«01_k».proof.Proof.Gen.Kernel3Ideal.Value
public import proofs.«01_k».proof.Proof.Silu

/-! The gate kernel's result array, entry by entry, in terms of its arguments. -/

@[expose] public section

set_option maxRecDepth 16384

noncomputable section
namespace Cert.Kernel3Ideal.Gate
open Cert.Kernel3Ideal Cert.Kernel3Ideal.Gen Idealize.ShloMosaic Idealize.ShloMosaic.TcCoe Idealize.SL.Sem
open Idealize.ShloMosaic.Pipeline (Dat)
open Gating

/-- Entry of what a point computes: the gated product of a row of the inputs with a row of the weights. -/
theorem gate_pay (x w : Vec Ideal S1024x4096 .bf16) (a b : Fin 1024) :
    k0_pay1 (F := Ideal) x w (ix2 a b) = silu (∑ k, x (ix2 a k) * w (ix2 b k)) := by
  pointwise [k0_pay1]
  exact silu_tanh _

/-- The blocks are loaded whole. -/
theorem whole (x : Vec Ideal S1024x4096 .bf16) : (View.ld x r0_0 : Vec Ideal S1024x4096 .bf16) = x := by
  funext j; idx_vars j; pointwise

/-- Entry of the output block. -/
theorem gate_block (x w : Vec Ideal S1024x4096 .bf16) (a b : Fin 1024) :
    out0_2 (F := Ideal) x w (ix2 a b) = silu (∑ k, x (ix2 a k) * w (ix2 b k)) := by
  canon_tiles y h
  idx_vars y
  obtain rfl : b = y1 := Fin.ext h1
  obtain rfl : a = y0 := Fin.ext h0
  refine (gate_pay _ _ a b).trans ?_
  rw [whole, whole]

variable (m : (ℓ : Loc nD τ sig) → Buf (Elt Ideal) ℓ) (c : Dev nD)

/-- Which block each window shows at a point. -/
theorem where_at : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The grid has 16 points. -/
theorem points (t : Fin cfg0.N) : t.val < 16 := t.isLt.trans_eq (by decide +kernel)

/-- Row `a` of the inputs' block at point `t`. -/
theorem x_block (t : Fin cfg0.N) (a : Fin 1024) (k : Fin 4096) (h : 1024 * (t.val / 2) + a.val < 8192) :
    iblk m c 0 t (ix2 a k) = m ((c : Thread nD τ).loc main_arg0)
      (ix3 ⟨(1024 * (t.val / 2) + a.val) / 4096, by omega⟩ ⟨(1024 * (t.val / 2) + a.val) % 4096, by omega⟩ k) := by
  blk_ext! [iblk, V, where_at t]

/-- Row `b` of the weights' block at point `t`: the gate's column `1024 (t mod 2) + b`. -/
theorem w_block (t : Fin cfg0.N) (b : Fin 1024) (k : Fin 4096) (h : 1024 * (t.val % 2) + b.val < 2048) :
    iblk m c 1 t (ix2 b k) = m ((c : Thread nD τ).loc main_arg1) (ix2 k ⟨9792 + (1024 * (t.val % 2) + b.val), by omega⟩) := by
  blk_ext! [iblk, V, where_at t]

/-- The gate. -/
theorem gate_array : (dats m 0 c).arrAt 2 cfg0.N = (fun i : S8192x2048.Idx =>
    gate (m ((c : Thread nD τ).loc main_arg0)) (m ((c : Thread nD τ).loc main_arg1)) (i 0) (i 1)) := by
  refine (dats m 0 c).arrAt_eq_of_covers 2 _ (by decide +kernel) fun t _ y => ?_
  blk_simp
  rw [after0_2]
  idx_vars y
  have hr : 1024 * (t.val / 2) + y0.val < 8192 := by have := points t; omega
  have hs : 1024 * (t.val % 2) + y1.val < 2048 := by omega
  have hi : ((View.whole main_v4).slice (win0_2.rect t)).emb (ix2 y0 y1) = ix2 (⟨1024 * (t.val / 2) + y0.val, hr⟩ : Fin 8192) (⟨1024 * (t.val % 2) + y1.val, hs⟩ : Fin 2048) := by
    blk_ext [where_at t]
  refine (gate_block _ _ y0 y1).trans ?_
  refine Eq.trans ?_ (congrArg (fun i : S8192x2048.Idx => gate (m ((c : Thread nD τ).loc main_arg0)) (m ((c : Thread nD τ).loc main_arg1)) (i 0) (i 1)) hi).symm
  exact congrArg silu (Finset.sum_congr rfl fun k _ => congrArg₂ (· * ·) (x_block m c t y0 k hr) (w_block m c t y1 k hs))

/-- The run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v4) = (fun i : S8192x2048.Idx => gate (m ((c : Thread nD τ).loc main_arg0)) (m ((c : Thread nD τ).loc main_arg1)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (gate_array m c), (h c).2⟩) (Value.run_blocks m ρ)

end Cert.Kernel3Ideal.Gate
-- ==== Proof.GateReference.lean ====
module

public import proofs.«01_k».proof.Proof.Silu
public import proofs.«01_k».proof.Proof.Gen.Reference3Ideal.Read
public import proofs.«01_k».proof.Proof.Gen.Reference3Ideal.Run
public import Idealize.ShloMosaic.Lib.Pipeline.ValueKit
public import Idealize.ShloMosaic.Lib.Pointwise

/-! The gate reference's result, entry by entry, is the same function of the arguments. -/

@[expose] public section

set_option maxRecDepth 16384

noncomputable section
namespace Cert.Reference3Ideal.Gate
open Cert.Reference3Ideal Cert.Reference3Ideal.Gen Cert.Reference3Ideal.Read Idealize.ShloMosaic Idealize.ShloMosaic.TcCoe Idealize.SL.Sem
open Gating

variable (x : FVec Ideal S2x4096x4096 .bf16) (w : FVec Ideal S4096x11840 .f32)

/-- The projection of token `r` to column `e`. -/
theorem proj_at (p : Fin 2) (s : Fin 4096) (e : Fin 11840) :
    val_main_v1 (F := Ideal) x w (ix3 p s e) = ∑ k, x (ix3 p s k) * w (ix2 k e) := by
  pointwise [val_main_v1, val_main_v0]

/-- An entry of the gate. -/
theorem gate_at (r : Fin 8192) (b : Fin 2048) : val_main_v5 (F := Ideal) x w (ix2 r b) = gate x w r b := by
  pointwise [val_main_v5, val_main_v4, val_main_v3, val_main_call0_v5, val_main_call0_v4, val_main_call0_v3, val_main_call0_v2, val_main_call0_v1, val_main_call0_v0, val_main_call0_cst, val_main_call0_cst_0, val_main_v2]
  simp only [proj_at]
  rfl

/-- The array of `gate_at`. -/
theorem gate_array : val_main_v5 (F := Ideal) x w = (fun i : S8192x2048.Idx => gate x w (i 0) (i 1)) := by
  funext i
  idx_vars i
  exact gate_at x w i0 i1

variable (m : (ℓ : Loc nD τ sig) → Buf (Elt Ideal) ℓ)

/-- The reference's run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v5) = (fun i : S8192x2048.Idx => gate (m ((c : Thread nD τ).loc main_arg0)) (m ((c : Thread nD τ).loc main_arg1)) (i 0) (i 1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1.trans (val_main_v5_eq _ _)).trans (gate_array _ _), (h c).2⟩) (Value.run m ρ)

end Cert.Reference3Ideal.Gate
-- ==== Proof.OutProjTiles.lean ====
module

public import proofs.«01_k».proof.Proof.Gen.Kernel4Ideal.Value
public import proofs.«01_k».proof.Proof.RmsNorm

/-! What one grid point of the output projection leaves in its block: the projected rows, normalised.

The point computes its 256 rows in eight column tiles of 512, adds up their squares, and goes over the tiles again to scale them. -/

@[expose] public section

set_option maxRecDepth 16384

noncomputable section
namespace Cert.Kernel4Ideal.OutProj
open Cert.Kernel4Ideal Cert.Kernel4Ideal.Gen Idealize.ShloMosaic Idealize.ShloMosaic.TcCoe Idealize.SL.Sem
open Idealize.ShloMosaic.Pipeline (Dat)
open RowNorm

/-- Entry of a column tile: the residual plus the two mixers' rows against the upper and the lower half of the weights. -/
def tile (v0 v2 : Vec Ideal S256x2048 .bf16) (v4 : Vec Ideal S256x512 .f32) (v6 v9 : Vec Ideal S2048x512 .bf16) (a : Fin 256) (b : Fin 512) : EReal :=
  v4 (ix2 a b) + ((∑ k : Fin 2048, v0 (ix2 a k) * v6 (ix2 k b)) + ∑ k : Fin 2048, v2 (ix2 a k) * v9 (ix2 k b))

section Tiles
variable (v0 v2 : Vec Ideal S256x2048 .bf16) (v4 : Vec Ideal S256x512 .f32) (v6 v9 : Vec Ideal S2048x512 .bf16) (a : Fin 256)

/-- The first tile. -/
theorem tile_first (b : Fin 512) : k0_pay3 (F := Ideal) v0 v2 v4 v6 v9 (ix2 a b) = tile v0 v2 v4 v6 v9 a b := by
  pointwise [k0_pay3, k0_pay1, k0_pay2]
  rfl

/-- The second tile. -/
theorem tile_second (b : Fin 512) : k0_pay5 (F := Ideal) v0 v2 v4 v6 v9 (ix2 a b) = tile v0 v2 v4 v6 v9 a b := by
  pointwise [k0_pay5, k0_pay1, k0_pay2]
  rfl

/-- The third tile. -/
theorem tile_third (b : Fin 512) : k0_pay7 (F := Ideal) (k0_pay1 v0) (k0_pay2 v2) v4 v6 v9 (ix2 a b) = tile v0 v2 v4 v6 v9 a b := by
  pointwise [k0_pay7, k0_pay1, k0_pay2]
  rfl

/-- The fourth tile. -/
theorem tile_fourth (b : Fin 512) : k0_pay8 (F := Ideal) (k0_pay1 v0) (k0_pay2 v2) v4 v6 v9 (ix2 a b) = tile v0 v2 v4 v6 v9 a b := by
  pointwise [k0_pay8, k0_pay1, k0_pay2]
  rfl

/-- The fifth tile. -/
theorem tile_fifth (b : Fin 512) : k0_pay11 (F := Ideal) (k0_pay1 v0) (k0_pay2 v2) (k0_pay10 v4) v6 v9 (ix2 a b) = tile v0 v2 v4 v6 v9 a b := by
  pointwise [k0_pay11, k0_pay10, k0_pay1, k0_pay2]
  rfl

/-- The sixth tile. -/
theorem tile_sixth (b : Fin 512) : k0_pay12 (F := Ideal) (k0_pay1 v0) (k0_pay2 v2) v4 v6 v9 (ix2 a b) = tile v0 v2 v4 v6 v9 a b := by
  pointwise [k0_pay12, k0_pay1, k0_pay2]
  rfl

/-- The seventh tile. -/
theorem tile_seventh (b : Fin 512) : k0_pay16 (F := Ideal) (k0_pay2 v2) (k0_pay14 v4) (k0_pay15 (k0_pay1 v0) v6) v9 (ix2 a b) = tile v0 v2 v4 v6 v9 a b := by
  pointwise [k0_pay16, k0_pay14, k0_pay15, k0_pay1, k0_pay2]
  rfl

/-- The eighth tile. -/
theorem tile_eighth (b : Fin 512) : k0_pay17 (F := Ideal) (k0_pay1 v0) (k0_pay2 v2) v4 v6 v9 (ix2 a b) = tile v0 v2 v4 v6 v9 a b := by
  pointwise [k0_pay17, k0_pay1, k0_pay2]
  rfl
end Tiles

section Scale
variable (i : FVec Ideal S256x1 .f32) (o : Vec Ideal S256x512 .f32) (g : Vec Ideal S1x512 .f32) (a : Fin 256) (b : Fin 512)

/-- A scaled tile. -/
theorem scaled_21 : k0_pay21 (F := Ideal) i o g (ix2 a b) = o (ix2 a b) * i (ix2 a 0) * g (ix2 0 b) := by
  pointwise [k0_pay21]

/-- A scaled tile. -/
theorem scaled_22 : k0_pay22 (F := Ideal) i o g (ix2 a b) = o (ix2 a b) * i (ix2 a 0) * g (ix2 0 b) := by
  pointwise [k0_pay22]

/-- A scaled tile. -/
theorem scaled_23 : k0_pay23 (F := Ideal) i o g (ix2 a b) = o (ix2 a b) * i (ix2 a 0) * g (ix2 0 b) := by
  pointwise [k0_pay23]

/-- A scaled tile. -/
theorem scaled_27 : k0_pay27 (F := Ideal) i o g (ix2 a b) = o (ix2 a b) * i (ix2 a 0) * g (ix2 0 b) := by
  pointwise [k0_pay27]

/-- A scaled tile. -/
theorem scaled_28 : k0_pay28 (F := Ideal) i o g (ix2 a b) = o (ix2 a b) * i (ix2 a 0) * g (ix2 0 b) := by
  pointwise [k0_pay28]

/-- A scaled tile. -/
theorem scaled_29 : k0_pay29 (F := Ideal) i o g (ix2 a b) = o (ix2 a b) * i (ix2 a 0) * g (ix2 0 b) := by
  pointwise [k0_pay29]

/-- A scaled tile. -/
theorem scaled_26 : k0_pay26 (F := Ideal) (k0_pay24 o) (k0_pay25 i) g (ix2 a b) = o (ix2 a b) * i (ix2 a 0) * g (ix2 0 b) := by
  pointwise [k0_pay26, k0_pay24, k0_pay25]

/-- A scaled tile. -/
theorem scaled_20 (v1 v3 : FVec Ideal S256x2048 .bf16) (v92 : FVec Ideal S256x1 .f32) (v94 v97 : FVec Ideal S256x512 .f32) (v98 : Vec Ideal S2048x512 .bf16) (v108 : Vec Ideal S256x512 .f32) (v110 v113 : Vec Ideal S2048x512 .bf16) :
    k0_pay20 (F := Ideal) (k0_pay19 v1 v3 v92 v94 v97 v98 v108 v110 v113 o) g (ix2 a b)
      = o (ix2 a b) * k0_pay18 (F := Ideal) v1 v3 v92 v94 v97 v98 v108 v110 v113 (ix2 a 0) * g (ix2 0 b) := by
  unfold k0_pay19
  generalize k0_pay18 (F := Ideal) v1 v3 v92 v94 v97 v98 v108 v110 v113 = i
  pointwise [k0_pay20]
end Scale

/-- Eight tiles' sums are the row's sum. -/
theorem eight (f : Fin 4096 → EReal) :
    ((((((((∑ b : Fin 512, f ⟨0 + b, by omega⟩) + (∑ b : Fin 512, f ⟨512 + b, by omega⟩)) + (∑ b : Fin 512, f ⟨1024 + b, by omega⟩)) + (∑ b : Fin 512, f ⟨1536 + b, by omega⟩)) + (∑ b : Fin 512, f ⟨2048 + b, by omega⟩)) + (∑ b : Fin 512, f ⟨2560 + b, by omega⟩)) + (∑ b : Fin 512, f ⟨3072 + b, by omega⟩)) + (∑ b : Fin 512, f ⟨3584 + b, by omega⟩)) = ∑ e, f e := by
  rw [← Fin.sum_mul_add_fin (S := 8) (n := 512) f, Fin.sum_univ_eight]
  rfl

section Factor
variable (x0 x1 : Vec Ideal S256x2048 .bf16) (a : Fin 256) (H : Fin 4096 → EReal)

/-- The factor the point scales its rows by, from its eight column tiles. -/
theorem factor_tiles (t0 t1 t2 t3 t4 t5 t6 t7 : Vec Ideal S256x512 .f32) (u0 u1 u2 u3 u4 u5 u6 u7 w0 w1 w2 w3 w4 w5 w6 w7 : Vec Ideal S2048x512 .bf16)
    (h0 : ∀ b : Fin 512, tile x0 x1 t0 u0 w0 a b = H ⟨0 + b, by omega⟩)
    (h1 : ∀ b : Fin 512, tile x0 x1 t1 u1 w1 a b = H ⟨512 + b, by omega⟩)
    (h2 : ∀ b : Fin 512, tile x0 x1 t2 u2 w2 a b = H ⟨1024 + b, by omega⟩)
    (h3 : ∀ b : Fin 512, tile x0 x1 t3 u3 w3 a b = H ⟨1536 + b, by omega⟩)
    (h4 : ∀ b : Fin 512, tile x0 x1 t4 u4 w4 a b = H ⟨2048 + b, by omega⟩)
    (h5 : ∀ b : Fin 512, tile x0 x1 t5 u5 w5 a b = H ⟨2560 + b, by omega⟩)
    (h6 : ∀ b : Fin 512, tile x0 x1 t6 u6 w6 a b = H ⟨3072 + b, by omega⟩)
    (h7 : ∀ b : Fin 512, tile x0 x1 t7 u7 w7 a b = H ⟨3584 + b, by omega⟩)
    : k0_pay18 (F := Ideal) (k0_pay1 x0) (k0_pay2 x1)
        (k0_pay13 (k0_pay1 x0) (k0_pay2 x1)
          (k0_pay9 (k0_pay1 x0) (k0_pay2 x1) (k0_pay4 x0 x1 t0 u0 w0) (k0_pay6 x0 x1 t1 u1 w1)
            t2 u2 w2 t3 u3 w3)
          (k0_pay10 t4) u4 w4 t5 u5 w5)
        (k0_pay14 t6) (k0_pay15 (k0_pay1 x0) u6) w6 t7 u7 w7 (ix2 a 0)
      = factor len4096 H := by
  pointwise [k0_pay18, k0_pay13, k0_pay9, k0_pay6, k0_pay4, tile_first, tile_second, tile_third, tile_fourth, tile_fifth, tile_sixth, tile_seventh, tile_eighth]
  simp only [h0, h1, h2, h3, h4, h5, h6, h7]
  rw [eight (fun e => H e * H e)]
  rfl
end Factor

end Cert.Kernel4Ideal.OutProj
-- ==== Proof.LayerOut.lean ====
module

public import proofs.«01_k».proof.Proof.RmsNorm

/-! The layer's result, entry by entry: the two mixers' outputs side by side, projected, added to the residual, normalised. -/

@[expose] public section

noncomputable section
namespace RowNorm
open Idealize.ShloMosaic

/-- An array of one mixer's outputs. -/
abbrev Mixer := (⟨3, ![2, 4096, 2048]⟩ : Shape).Idx → EReal

/-- Column `e` of token `r`'s residual plus its projected mixer outputs: the first mixer's against the upper half of the weights, the second's against the lower. -/
def mixed (yc ya : Mixer) (w : (⟨2, ![4096, 4096]⟩ : Shape).Idx → EReal) (x : Hidden) (r : Fin 8192) (e : Fin 4096) : EReal :=
  x (ix3 ⟨r / 4096, by omega⟩ ⟨r % 4096, by omega⟩ e)
    + ((∑ k : Fin 2048, yc (ix3 ⟨r / 4096, by omega⟩ ⟨r % 4096, by omega⟩ k) * w (ix2 ⟨k, by omega⟩ e))
      + ∑ k : Fin 2048, ya (ix3 ⟨r / 4096, by omega⟩ ⟨r % 4096, by omega⟩ k) * w (ix2 ⟨2048 + k, by omega⟩ e))

/-- The layer's result for token `r`. -/
def layerOut (yc ya : Mixer) (w : (⟨2, ![4096, 4096]⟩ : Shape).Idx → EReal) (x : Hidden)
    (g : (⟨1, ![4096]⟩ : Shape).Idx → EReal) (r : Fin 8192) : Fin 4096 → EReal :=
  norm len4096 (mixed yc ya w x r) (fun e => g (ix1 e))

end RowNorm
-- ==== Proof.OutProj.lean ====
module

public import proofs.«01_k».proof.Proof.OutProjTiles
public import proofs.«01_k».proof.Proof.LayerOut

/-! The output projection's result array, entry by entry, in terms of its arguments. -/

@[expose] public section

set_option maxRecDepth 16384

noncomputable section
namespace Cert.Kernel4Ideal.OutProj
open Cert.Kernel4Ideal Cert.Kernel4Ideal.Gen Idealize.ShloMosaic Idealize.ShloMosaic.TcCoe Idealize.SL.Sem
open Idealize.ShloMosaic.Pipeline (Dat)
open RowNorm

/-- One more tile scaled: below column `o` the buffer holds the final rows `G`, from there on the unscaled rows `H`; storing the scaled
tile of columns `o` to `o + 512` moves the border by 512 columns. -/
theorem step (o o' : ℕ) (ho : o' = o + 512) (v : View sig .tc .vmem S256x4096 .f32) (G H : Fin 256 → Fin 4096 → EReal)
    (inb : ∀ a, ![0, o] a + ![256, 512] a ≤ S256x4096.size a)
    (L : List (View.Piece (Elt Ideal) S256x4096 .f32))
    (w : (Rect.unit (s := S256x4096) ![0, o] ![256, 512] inb).shape.Idx → Elt Ideal .f32)
    (hL : ∀ a b, View.canon L (ix2 a b) = if b.val < o then G a b else H a b)
    (hw : (∀ (a : Fin 256) (b : Fin 512) (hb : o + b.val < 4096),
        v.readCov L (Rect.unit (s := S256x4096) ![0, o] ![256, 512] inb).toLoadRect (ix2 a b) = H a ⟨o + b, hb⟩) →
      ∀ (a : Fin 256) (b : Fin 512) (hb : o + b.val < 4096), w (ix2 a b) = G a ⟨o + b, hb⟩) (a : Fin 256) (b : Fin 4096) :
    View.canon (⟨Rect.unit (s := S256x4096) ![0, o] ![256, 512] inb, w⟩ :: L : List (View.Piece (Elt Ideal) S256x4096 .f32)) (ix2 a b)
      = if b.val < o' then G a b else H a b := by
  have hw' := hw fun a b hb => by
    rw [View.readCov_eq_canon']
    have e : (Rect.unit (s := S256x4096) ![0, o] ![256, 512] inb).toLoadRect.idx (ix2 a b) = ix2 a (⟨o + b, hb⟩ : Fin 4096) := by
      funext d
      apply Fin.ext
      match d with
      | ⟨0, _⟩ => show 0 + 1 * a.val = a.val; omega
      | ⟨1, _⟩ => show o + 1 * b.val = o + b.val; omega
    show View.canon L ((Rect.unit (s := S256x4096) ![0, o] ![256, 512] inb).toLoadRect.idx (ix2 a b)) = _
    rw [e, hL, if_neg (by show ¬ o + b.val < o; omega)]
  by_cases hb : o ≤ b.val ∧ b.val < o + 512
  · have e : (Rect.unit (s := S256x4096) ![0, o] ![256, 512] inb).emb (ix2 a (⟨b.val - o, by omega⟩ : Fin 512)) = ix2 a b := by
      funext d
      apply Fin.ext
      match d with
      | ⟨0, _⟩ => show 0 + 1 * a.val = a.val; omega
      | ⟨1, _⟩ => show o + 1 * (b.val - o) = b.val; omega
    have key := View.canon_cons_emb (Rect.unit (s := S256x4096) ![0, o] ![256, 512] inb) w L (ix2 a (⟨b.val - o, by omega⟩ : Fin 512))
    rw [e] at key
    rw [if_pos (by omega)]
    refine key.trans ?_
    refine (hw' a ⟨b.val - o, by omega⟩ (by show o + (b.val - o) < 4096; omega)).trans ?_
    exact congrArg (G a) (Fin.ext (by show o + (b.val - o) = b.val; omega))
  · have hm : ix2 a b ∉ (Rect.unit (s := S256x4096) ![0, o] ![256, 512] inb).set := by
      intro h
      obtain ⟨x, hx⟩ := (Rect.unit (s := S256x4096) ![0, o] ![256, 512] inb).exists_idx_of_mem h
      have h1 := congrArg Fin.val (congrFun hx 1)
      rw [Rect.idx_unit_val] at h1
      have h2 : ∀ z : Fin ((![256, 512] : Fin 2 → ℕ) 1), z.val < 512 := fun z => z.isLt
      have h2 := h2 (x 1)
      have h3 : o + (x 1).val = b.val := h1
      omega
    refine (View.canon_cons_of_not_mem (⟨Rect.unit (s := S256x4096) ![0, o] ![256, 512] inb, w⟩ : View.Piece (Elt Ideal) S256x4096 .f32) L (y := ix2 a b) hm).trans ?_
    rw [hL]
    by_cases h1 : b.val < o
    · rw [if_pos h1, if_pos (by omega)]
    · rw [if_neg h1, if_neg (by omega)]

section Block
variable (x0 x1 : Vec Ideal S256x2048 .bf16) (x2 : Vec Ideal S4096x4096 .bf16) (x3 : Vec Ideal S256x4096 .f32) (x4 : Vec Ideal S1x4096 .f32)

/-- Row `a` of the point's block before it is scaled. -/
def hRow (a : Fin 256) (e : Fin 4096) : EReal :=
  x3 (ix2 a e) + ((∑ k : Fin 2048, x0 (ix2 a k) * x2 (ix2 ⟨k, by omega⟩ e)) + ∑ k : Fin 2048, x1 (ix2 a k) * x2 (ix2 ⟨2048 + k, by omega⟩ e))

/-- The tile computed from the blocks' columns `o` to `o + 512` is those columns of the row. -/
theorem tile_at (o : ℕ) (i3 : ∀ a, ![0, o] a + ![256, 512] a ≤ S256x4096.size a) (i6 : ∀ a, ![0, o] a + ![2048, 512] a ≤ S4096x4096.size a)
    (i9 : ∀ a, ![2048, o] a + ![2048, 512] a ≤ S4096x4096.size a) (a : Fin 256) (b : Fin 512) (hb : o + b.val < 4096) :
    tile x0 x1 (View.ld x3 (Rect.unit (s := S256x4096) ![0, o] ![256, 512] i3)) (View.ld x2 (Rect.unit (s := S4096x4096) ![0, o] ![2048, 512] i6))
      (View.ld x2 (Rect.unit (s := S4096x4096) ![2048, o] ![2048, 512] i9)) a b = hRow x0 x1 x2 x3 a ⟨o + b, hb⟩ := by
  unfold tile hRow
  refine congrArg₂ (· + ·) ?_ (congrArg₂ (· + ·) (Finset.sum_congr rfl fun k _ => congrArg₂ (· * ·) rfl ?_)
    (Finset.sum_congr rfl fun k _ => congrArg₂ (· * ·) rfl ?_))
  · refine View.ld_unit_apply_of x3 _ _ i3 _ _ fun d => ?_
    match d with
    | ⟨0, _⟩ => show a.val = 0 + a.val; omega
    | ⟨1, _⟩ => rfl
  · refine View.ld_unit_apply_of x2 _ _ i6 _ _ fun d => ?_
    match d with
    | ⟨0, _⟩ => show k.val = 0 + k.val; omega
    | ⟨1, _⟩ => rfl
  · refine View.ld_unit_apply_of x2 _ _ i9 _ _ fun d => ?_
    match d with
    | ⟨0, _⟩ => rfl
    | ⟨1, _⟩ => rfl

/-- The gains loaded with a tile. -/
theorem gain_at (o : ℕ) (i4 : ∀ a, ![0, o] a + ![1, 512] a ≤ S1x4096.size a) (b : Fin 512) (hb : o + b.val < 4096) :
    View.ld x4 (Rect.unit (s := S1x4096) ![0, o] ![1, 512] i4) (ix2 0 b) = x4 (ix2 0 ⟨o + b, hb⟩) := by
  refine View.ld_unit_apply_of x4 _ _ i4 _ _ fun d => ?_
  match d with
  | ⟨0, _⟩ => rfl
  | ⟨1, _⟩ => rfl

/-- The factor row `a` is scaled by. -/
theorem factor_at (a : Fin 256) :
    k0_pay18 (F := Ideal) (k0_pay1 x0) (k0_pay2 x1)
        (k0_pay13 (k0_pay1 x0) (k0_pay2 x1)
          (k0_pay9 (k0_pay1 x0) (k0_pay2 x1) (k0_pay4 x0 x1 (View.ld x3 (Rect.unit (s := S256x4096) ![0, 0] ![256, 512] inb_S256x4096_S256x512_0_0)) (View.ld x2 (Rect.unit (s := S4096x4096) ![0, 0] ![2048, 512] inb_S4096x4096_S2048x512_0_0)) (View.ld x2 (Rect.unit (s := S4096x4096) ![2048, 0] ![2048, 512] inb_S4096x4096_S2048x512_2048_0))) (k0_pay6 x0 x1 (View.ld x3 (Rect.unit (s := S256x4096) ![0, 512] ![256, 512] inb_S256x4096_S256x512_0_512)) (View.ld x2 (Rect.unit (s := S4096x4096) ![0, 512] ![2048, 512] inb_S4096x4096_S2048x512_0_512)) (View.ld x2 (Rect.unit (s := S4096x4096) ![2048, 512] ![2048, 512] inb_S4096x4096_S2048x512_2048_512)))
            (View.ld x3 (Rect.unit (s := S256x4096) ![0, 1024] ![256, 512] inb_S256x4096_S256x512_0_1024)) (View.ld x2 (Rect.unit (s := S4096x4096) ![0, 1024] ![2048, 512] inb_S4096x4096_S2048x512_0_1024)) (View.ld x2 (Rect.unit (s := S4096x4096) ![2048, 1024] ![2048, 512] inb_S4096x4096_S2048x512_2048_1024)) (View.ld x3 (Rect.unit (s := S256x4096) ![0, 1536] ![256, 512] inb_S256x4096_S256x512_0_1536)) (View.ld x2 (Rect.unit (s := S4096x4096) ![0, 1536] ![2048, 512] inb_S4096x4096_S2048x512_0_1536)) (View.ld x2 (Rect.unit (s := S4096x4096) ![2048, 1536] ![2048, 512] inb_S4096x4096_S2048x512_2048_1536)))
          (k0_pay10 (View.ld x3 (Rect.unit (s := S256x4096) ![0, 2048] ![256, 512] inb_S256x4096_S256x512_0_2048))) (View.ld x2 (Rect.unit (s := S4096x4096) ![0, 2048] ![2048, 512] inb_S4096x4096_S2048x512_0_2048)) (View.ld x2 (Rect.unit (s := S4096x4096) ![2048, 2048] ![2048, 512] inb_S4096x4096_S2048x512_2048_2048)) (View.ld x3 (Rect.unit (s := S256x4096) ![0, 2560] ![256, 512] inb_S256x4096_S256x512_0_2560)) (View.ld x2 (Rect.unit (s := S4096x4096) ![0, 2560] ![2048, 512] inb_S4096x4096_S2048x512_0_2560)) (View.ld x2 (Rect.unit (s := S4096x4096) ![2048, 2560] ![2048, 512] inb_S4096x4096_S2048x512_2048_2560)))
        (k0_pay14 (View.ld x3 (Rect.unit (s := S256x4096) ![0, 3072] ![256, 512] inb_S256x4096_S256x512_0_3072))) (k0_pay15 (k0_pay1 x0) (View.ld x2 (Rect.unit (s := S4096x4096) ![0, 3072] ![2048, 512] inb_S4096x4096_S2048x512_0_3072))) (View.ld x2 (Rect.unit (s := S4096x4096) ![2048, 3072] ![2048, 512] inb_S4096x4096_S2048x512_2048_3072)) (View.ld x3 (Rect.unit (s := S256x4096) ![0, 3584] ![256, 512] inb_S256x4096_S256x512_0_3584)) (View.ld x2 (Rect.unit (s := S4096x4096) ![0, 3584] ![2048, 512] inb_S4096x4096_S2048x512_0_3584)) (View.ld x2 (Rect.unit (s := S4096x4096) ![2048, 3584] ![2048, 512] inb_S4096x4096_S2048x512_2048_3584)) (ix2 a 0)
      = factor len4096 (hRow x0 x1 x2 x3 a) :=
  factor_tiles x0 x1 a (hRow x0 x1 x2 x3 a) _ _ _ _ _ _ _ _ _ _ _ _ _ _ _ _ _ _ _ _ _ _ _ _
    (fun b => tile_at x0 x1 x2 x3 0 _ _ _ a b (by omega))
    (fun b => tile_at x0 x1 x2 x3 512 _ _ _ a b (by omega))
    (fun b => tile_at x0 x1 x2 x3 1024 _ _ _ a b (by omega))
    (fun b => tile_at x0 x1 x2 x3 1536 _ _ _ a b (by omega))
    (fun b => tile_at x0 x1 x2 x3 2048 _ _ _ a b (by omega))
    (fun b => tile_at x0 x1 x2 x3 2560 _ _ _ a b (by omega))
    (fun b => tile_at x0 x1 x2 x3 3072 _ _ _ a b (by omega))
    (fun b => tile_at x0 x1 x2 x3 3584 _ _ _ a b (by omega))
end Block

variable (m : (ℓ : Loc nD τ sig) → Buf (Elt Ideal) ℓ) (c : Dev nD)

set_option maxHeartbeats 1600000 in
/-- The block point `t` leaves: its rows, normalised. -/
theorem out_block (t : Fin cfg0.N) (a : Fin 256) (b : Fin 4096) :
    outsAt0 m c t (ix2 a b) = norm len4096 (hRow (iblk m c 0 t) (iblk m c 1 t) (iblk m c 2 t) (iblk m c 3 t) a)
      (fun e => iblk m c 4 t (ix2 0 e)) b := by
  unfold outsAt0
  frame_out
  generalize iblk m c 0 t = x0
  generalize iblk m c 1 t = x1
  generalize iblk m c 2 t = x2
  generalize iblk m c 3 t = x3
  generalize iblk m c 4 t = x4
  let G : Fin 256 → Fin 4096 → EReal := fun a => norm len4096 (hRow x0 x1 x2 x3 a) (fun e => x4 (ix2 0 e))
  let H : Fin 256 → Fin 4096 → EReal := hRow x0 x1 x2 x3
  refine Eq.trans (b := if b.val < 4096 then G a b else H a b) ?_ (if_pos b.isLt)
  revert a b
  refine step 3584 4096 rfl (ms0_5 t).view G H _ _ _ ?_ ?_
  refine step 3072 3584 rfl (ms0_5 t).view G H _ _ _ ?_ ?_
  refine step 2560 3072 rfl (ms0_5 t).view G H _ _ _ ?_ ?_
  refine step 2048 2560 rfl (ms0_5 t).view G H _ _ _ ?_ ?_
  refine step 1536 2048 rfl (ms0_5 t).view G H _ _ _ ?_ ?_
  refine step 1024 1536 rfl (ms0_5 t).view G H _ _ _ ?_ ?_
  refine step 512 1024 rfl (ms0_5 t).view G H _ _ _ ?_ ?_
  refine step 0 512 rfl (ms0_5 t).view G H _ _ _ ?_ ?_
  · intro a b
    rw [if_neg (by omega)]
    canon_tiles y h
    all_goals idx_vars y
    all_goals (obtain rfl : a = y0 := Fin.ext h0)
    · exact (tile_eighth _ _ _ _ _ a y1).trans ((tile_at x0 x1 x2 x3 3584 _ _ _ a y1 (by omega)).trans (congrArg (hRow x0 x1 x2 x3 a) (Fin.ext h1.symm)))
    · exact (tile_seventh _ _ _ _ _ a y1).trans ((tile_at x0 x1 x2 x3 3072 _ _ _ a y1 (by omega)).trans (congrArg (hRow x0 x1 x2 x3 a) (Fin.ext h1.symm)))
    · exact (tile_sixth _ _ _ _ _ a y1).trans ((tile_at x0 x1 x2 x3 2560 _ _ _ a y1 (by omega)).trans (congrArg (hRow x0 x1 x2 x3 a) (Fin.ext h1.symm)))
    · exact (tile_fifth _ _ _ _ _ a y1).trans ((tile_at x0 x1 x2 x3 2048 _ _ _ a y1 (by omega)).trans (congrArg (hRow x0 x1 x2 x3 a) (Fin.ext h1.symm)))
    · exact (tile_fourth _ _ _ _ _ a y1).trans ((tile_at x0 x1 x2 x3 1536 _ _ _ a y1 (by omega)).trans (congrArg (hRow x0 x1 x2 x3 a) (Fin.ext h1.symm)))
    · exact (tile_third _ _ _ _ _ a y1).trans ((tile_at x0 x1 x2 x3 1024 _ _ _ a y1 (by omega)).trans (congrArg (hRow x0 x1 x2 x3 a) (Fin.ext h1.symm)))
    · exact (tile_second _ _ _ _ _ a y1).trans ((tile_at x0 x1 x2 x3 512 _ _ _ a y1 (by omega)).trans (congrArg (hRow x0 x1 x2 x3 a) (Fin.ext h1.symm)))
    · exact (tile_first _ _ _ _ _ a y1).trans ((tile_at x0 x1 x2 x3 0 _ _ _ a y1 (by omega)).trans (congrArg (hRow x0 x1 x2 x3 a) (Fin.ext ((Nat.zero_add _).trans h1.symm))))
  · intro hl a b hb
    refine (scaled_20 _ _ a b _ _ _ _ _ _ _ _ _).trans ?_
    exact congrArg₂ (· * ·) (congrArg₂ (· * ·) (hl a b hb) (factor_at x0 x1 x2 x3 a)) (gain_at x4 0 _ b hb)
  · intro hl a b hb
    refine (scaled_21 _ _ _ a b).trans ?_
    exact congrArg₂ (· * ·) (congrArg₂ (· * ·) (hl a b hb) (factor_at x0 x1 x2 x3 a)) (gain_at x4 512 _ b hb)
  · intro hl a b hb
    refine (scaled_22 _ _ _ a b).trans ?_
    exact congrArg₂ (· * ·) (congrArg₂ (· * ·) (hl a b hb) (factor_at x0 x1 x2 x3 a)) (gain_at x4 1024 _ b hb)
  · intro hl a b hb
    refine (scaled_23 _ _ _ a b).trans ?_
    exact congrArg₂ (· * ·) (congrArg₂ (· * ·) (hl a b hb) (factor_at x0 x1 x2 x3 a)) (gain_at x4 1536 _ b hb)
  · intro hl a b hb
    refine (scaled_26 _ _ _ a b).trans ?_
    exact congrArg₂ (· * ·) (congrArg₂ (· * ·) (hl a b hb) (factor_at x0 x1 x2 x3 a)) (gain_at x4 2048 _ b hb)
  · intro hl a b hb
    refine (scaled_27 _ _ _ a b).trans ?_
    exact congrArg₂ (· * ·) (congrArg₂ (· * ·) (hl a b hb) (factor_at x0 x1 x2 x3 a)) (gain_at x4 2560 _ b hb)
  · intro hl a b hb
    refine (scaled_28 _ _ _ a b).trans ?_
    exact congrArg₂ (· * ·) (congrArg₂ (· * ·) (hl a b hb) (factor_at x0 x1 x2 x3 a)) (gain_at x4 3072 _ b hb)
  · intro hl a b hb
    refine (scaled_29 _ _ _ a b).trans ?_
    exact congrArg₂ (· * ·) (congrArg₂ (· * ·) (hl a b hb) (factor_at x0 x1 x2 x3 a)) (gain_at x4 3584 _ b hb)

/-- Which block each window shows at a point. -/
theorem where_at : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] :=
  (by decide +kernel : ∀ t : Fin grid0.N, _)

/-- The grid has 32 points. -/
theorem points (t : Fin cfg0.N) : t.val < 32 := t.isLt.trans_eq (by decide +kernel)

/-- Row `a` of the first mixer's block. -/
theorem conv_block (t : Fin cfg0.N) (a : Fin 256) (k : Fin 2048) (h : 256 * t.val + a.val < 8192) :
    iblk m c 0 t (ix2 a k) = m ((c : Thread nD τ).loc main_arg0)
      (ix3 ⟨(256 * t.val + a.val) / 4096, by omega⟩ ⟨(256 * t.val + a.val) % 4096, by omega⟩ k) := by
  blk_ext! [iblk, V, where_at t]

/-- Row `a` of the second mixer's block. -/
theorem attn_block (t : Fin cfg0.N) (a : Fin 256) (k : Fin 2048) (h : 256 * t.val + a.val < 8192) :
    iblk m c 1 t (ix2 a k) = m ((c : Thread nD τ).loc main_arg1)
      (ix3 ⟨(256 * t.val + a.val) / 4096, by omega⟩ ⟨(256 * t.val + a.val) % 4096, by omega⟩ k) := by
  blk_ext! [iblk, V, where_at t]

/-- The weights' block: the weights. -/
theorem w_block (t : Fin cfg0.N) (k e : Fin 4096) :
    iblk m c 2 t (ix2 k e) = m ((c : Thread nD τ).loc main_arg2) (ix2 k e) := by
  blk_ext! [iblk, V, where_at t]

/-- Row `a` of the residual's block. -/
theorem x_block (t : Fin cfg0.N) (a : Fin 256) (k : Fin 4096) (h : 256 * t.val + a.val < 8192) :
    iblk m c 3 t (ix2 a k) = m ((c : Thread nD τ).loc main_arg3)
      (ix3 ⟨(256 * t.val + a.val) / 4096, by omega⟩ ⟨(256 * t.val + a.val) % 4096, by omega⟩ k) := by
  blk_ext! [iblk, V, where_at t]

/-- The gains' block. -/
theorem g_block (t : Fin cfg0.N) (k : Fin 4096) :
    iblk m c 4 t (ix2 0 k) = m ((c : Thread nD τ).loc main_arg4) (ix1 k) := by
  blk_ext! [iblk, V, where_at t]

/-- Row `a` of point `t`'s block is token `256 t + a`'s. -/
theorem row_of (t : Fin cfg0.N) (a : Fin 256) (h : 256 * t.val + a.val < 8192) :
    hRow (iblk m c 0 t) (iblk m c 1 t) (iblk m c 2 t) (iblk m c 3 t) a
      = mixed (m ((c : Thread nD τ).loc main_arg0)) (m ((c : Thread nD τ).loc main_arg1)) (m ((c : Thread nD τ).loc main_arg2)) (m ((c : Thread nD τ).loc main_arg3)) ⟨256 * t.val + a.val, h⟩ := by
  funext e
  unfold hRow mixed
  exact congrArg₂ (· + ·) (x_block m c t a e h) (congrArg₂ (· + ·) (Finset.sum_congr rfl fun k _ => congrArg₂ (· * ·) (conv_block m c t a k h) (w_block m c t _ e))
    (Finset.sum_congr rfl fun k _ => congrArg₂ (· * ·) (attn_block m c t a k h) (w_block m c t _ e)))

/-- The result array. -/
theorem out_array : (dats m 0 c).arrAt 5 cfg0.N = (fun i : S8192x4096.Idx =>
    layerOut (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) := by
  refine (dats m 0 c).arrAt_eq_of_covers 5 _ (by decide +kernel) fun t _ y => ?_
  blk_simp
  rw [after0_5]
  idx_vars y
  have hr : 256 * t.val + y0.val < 8192 := by have := points t; omega
  have hi : ((View.whole main_v5).slice (win0_5.rect t)).emb (ix2 y0 y1) = ix2 (⟨256 * t.val + y0.val, hr⟩ : Fin 8192) y1 := by
    blk_ext [where_at t]
  refine (out_block m c t y0 y1).trans ?_
  refine Eq.trans ?_ (congrArg (fun i : S8192x4096.Idx => layerOut (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) hi).symm
  exact congrFun (congrArg₂ (norm len4096) (row_of m c t y0 hr) (funext fun e => g_block m c t e)) y1

/-- The run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v5) = (fun i : S8192x4096.Idx => layerOut (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (out_array m c), (h c).2⟩) (Value.run_blocks m ρ)

end Cert.Kernel4Ideal.OutProj
-- ==== Proof.OutProjReference.lean ====
module

public import proofs.«01_k».proof.Proof.LayerOut
public import proofs.«01_k».proof.Proof.Gen.Reference4Ideal.Read
public import proofs.«01_k».proof.Proof.Gen.Reference4Ideal.Run
public import Idealize.ShloMosaic.Lib.Pipeline.ValueKit
public import Idealize.ShloMosaic.Lib.Pointwise

/-! The output projection's reference's result, entry by entry, is the same function of the arguments. -/

@[expose] public section

set_option maxRecDepth 16384

noncomputable section
namespace Cert.Reference4Ideal.OutProj
open Cert.Reference4Ideal Cert.Reference4Ideal.Gen Cert.Reference4Ideal.Read Idealize.ShloMosaic Idealize.ShloMosaic.TcCoe Idealize.SL.Sem
open RowNorm

variable (yc ya : FVec Ideal S2x4096x2048 .bf16) (w : FVec Ideal S4096x4096 .f32) (x : FVec Ideal S2x4096x4096 .f32) (g : FVec Ideal S4096 .f32)

/-- The residual plus the projection, at token `r`. -/
theorem mixed_at (r : Fin 8192) (e : Fin 4096) :
    val_main_v4 (F := Ideal) yc ya w x (ix3 ⟨r / 4096, by omega⟩ ⟨r % 4096, by omega⟩ e) = mixed yc ya w x r e := by
  pointwise [val_main_v4, val_main_v3, val_main_v2, val_main_v1, val_main_v0]
  rfl

/-- An entry of the result. -/
theorem out_at (r : Fin 8192) (b : Fin 4096) : val_main_v18 (F := Ideal) yc ya w x g (ix2 r b) = layerOut yc ya w x g r b := by
  pointwise [val_main_v18, val_main_v17, val_main_v16, val_main_v15, val_main_v14, val_main_v13, val_main_v12, val_main_v11, val_main_v10, val_main_cst_1, val_main_v9, val_main_v8, val_main_cst_0, val_main_v7, val_main_v6, val_main_cst, val_main_v5]
  simp only [mixed_at]
  rfl

/-- The array of `out_at`. -/
theorem out_array : val_main_v18 (F := Ideal) yc ya w x g = (fun i : S8192x4096.Idx => layerOut yc ya w x g (i 0) (i 1)) := by
  funext i
  idx_vars i
  exact out_at yc ya w x g i0 i1

variable (m : (ℓ : Loc nD τ sig) → Buf (Elt Ideal) ℓ)

/-- The reference's run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v18) = (fun i : S8192x4096.Idx => layerOut (m ((c : Thread nD τ).loc main_arg0)) (m ((c : Thread nD τ).loc main_arg1)) (m ((c : Thread nD τ).loc main_arg2)) (m ((c : Thread nD τ).loc main_arg3)) (m ((c : Thread nD τ).loc main_arg4)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1.trans (val_main_v18_eq _ _ _ _ _)).trans (out_array _ _ _ _ _), (h c).2⟩) (Value.run m ρ)

end Cert.Reference4Ideal.OutProj
-- ==== Proof.ShortConvFrame.lean ====
module

public import proofs.«01_k».proof.Proof.ShortConvBitsRun
public import Idealize.ShloMosaic.Lib.Pipeline.FrameBody
public import Idealize.ShloMosaic.Lib.Claim

/-! The convolution kernel as compiled: its run ends, with the arguments as they were. -/

@[expose] public section

set_option maxRecDepth 16384

noncomputable section
namespace Cert.Kernel2.ShortConvFrame
open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The window whose contents are left open: the result's. -/
abbrev opened : Fin 7 → Bool := fun w => w.val == 6

/-- The buffer that carries rows. -/
abbrev carrier : Memref sig .tc .vmem S8x8x256 .f32 := Memref.whole cc0_scratch0

/-- The body's own buffers, at some contents. -/
theorem own_buffers : (Pipeline.ΦA spec0 c : sProp 𝕄)
    = iprop((∃ d, owns (c : Thread nD τ) carrier fullShare d) ∗ (∃ r, prngReg c r)) := by
  unfold Pipeline.ΦA
  rw [scopedRest0_eq]
  simp only [carrier, owns_whole]
  try rfl

/-- A buffer held is held at some contents. -/
theorem some_contents {sh : Shape} {e : EltTy} (M : Memref sig .tc .vmem sh e) (f : M.view.ty.Contents (Elt F)) :
    (M.view.loc (c : Thread nD τ) ↦[M.view.set]{fullShare} f : sProp 𝕄) ⊢ iprop(∃ d, owns (c : Thread nD τ) M fullShare d) := by
  unfold owns
  iintro H
  iexists (M.view.read (Elt F) f)
  iexists f
  isplitr
  · ipureintro; rfl
  iexact H

/-- What each point is given and leaves: the inputs' blocks stay, the output block is left open. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

/-- The arrays are those of the entry. -/
theorem arrays (c : Dev nD) (w : Fin cfg0.W) : (dats m 0 c).A w = V m c (Pipeline.arrRef spec0 w) := by
  dsimp only [dats]

/-- The block of input 0 stays. -/
theorem after_0 (c : Dev nD) (t : Fin cfg0.N) : (dats m 0 c).after 0 t = iblk m c 0 t := by dsimp only [dats]
/-- The block of input 1 stays. -/
theorem after_1 (c : Dev nD) (t : Fin cfg0.N) : (dats m 0 c).after 1 t = iblk m c 1 t := by dsimp only [dats]
/-- The block of input 2 stays. -/
theorem after_2 (c : Dev nD) (t : Fin cfg0.N) : (dats m 0 c).after 2 t = iblk m c 2 t := by dsimp only [dats]
/-- The block of input 3 stays. -/
theorem after_3 (c : Dev nD) (t : Fin cfg0.N) : (dats m 0 c).after 3 t = iblk m c 3 t := by dsimp only [dats]
/-- The block of input 4 stays. -/
theorem after_4 (c : Dev nD) (t : Fin cfg0.N) : (dats m 0 c).after 4 t = iblk m c 4 t := by dsimp only [dats]
/-- The block of input 5 stays. -/
theorem after_5 (c : Dev nD) (t : Fin cfg0.N) : (dats m 0 c).after 5 t = iblk m c 5 t := by dsimp only [dats]
/-- The body finds the block of input 0. -/
theorem found_0 (c : Dev nD) (t : Fin cfg0.N) (d) : (dats m 0 c).before 0 t d = iblk m c 0 t :=
  before0_0_of m (dats m 0 c) (arrays m c 0) (after_0 m c) t d
/-- The body finds the block of input 1. -/
theorem found_1 (c : Dev nD) (t : Fin cfg0.N) (d) : (dats m 0 c).before 1 t d = iblk m c 1 t :=
  before0_1_of m (dats m 0 c) (arrays m c 1) (after_1 m c) t d
/-- The body finds the block of input 2. -/
theorem found_2 (c : Dev nD) (t : Fin cfg0.N) (d) : (dats m 0 c).before 2 t d = iblk m c 2 t :=
  before0_2_of m (dats m 0 c) (arrays m c 2) (after_2 m c) t d
/-- The body finds the block of input 3. -/
theorem found_3 (c : Dev nD) (t : Fin cfg0.N) (d) : (dats m 0 c).before 3 t d = iblk m c 3 t :=
  before0_3_of m (dats m 0 c) (arrays m c 3) (after_3 m c) t d
/-- The body finds the block of input 4. -/
theorem found_4 (c : Dev nD) (t : Fin cfg0.N) (d) : (dats m 0 c).before 4 t d = iblk m c 4 t :=
  before0_4_of m (dats m 0 c) (arrays m c 4) (after_4 m c) t d
/-- The body finds the block of input 5. -/
theorem found_5 (c : Dev nD) (t : Fin cfg0.N) (d) : (dats m 0 c).before 5 t d = iblk m c 5 t :=
  before0_5_of m (dats m 0 c) (arrays m c 5) (after_5 m c) t d

/-- What the body is called with at point `t`. -/
def given (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d))

/-- What it returns. -/
def returned (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d))

set_option maxHeartbeats 1600000 in
/-- The body at any point runs to its end and leaves the inputs' blocks as they were. -/
theorem sound (t : Fin cfg0.N) :
    given m c t ⊢ wp frame (wpE (defs₀ (F := F)) Variants.none c none) Set.univ (bodyAt0 t) (fun _ => returned m c t) := by
  unfold given returned bodyAt0
  simp only [found_0, found_1, found_2, found_3, found_4, found_5]
  rw [show (dats m 0 c).Φ t.succ = (dats m 0 c).Φ t.castSucc from rfl, show (dats m 0 c).owesAt () t.succ = (dats m 0 c).owesAt () t.castSucc from rfl,
    after_0, after_1, after_2, after_3, after_4, after_5]
  rw [show (dats m 0 c).Φ t.castSucc = Pipeline.ΦA spec0 c from rfl, own_buffers]
  by_cases h : ShortConvRun.opens (grid0.coords t)
  ·
    iintro ⟨⟨⟨%d, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((ShortConvRun.first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) d).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, %hfs, HS⟩⟩
    isplitl [HS Hg]
    · isplitl [HS]
      · iapply (some_contents c carrier _); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (some_contents c (win0_6.stage (cfg0.slots t 6)) _); iexact H6
  ·
    iintro ⟨⟨⟨%d, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((ShortConvRun.later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) d).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, %hfs, HS⟩⟩
    isplitl [HS Hg]
    · isplitl [HS]
      · iapply (some_contents c carrier _); iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (some_contents c (win0_6.stage (cfg0.slots t 6)) _); iexact H6

/-- The body table's row at a point is the body. -/
theorem body_row (t : Fin cfg0.N) : defs₀ (F := F) .tc cfg0.body (cfg0.bodyArgs t (cfg0.slots t)) = bodyAt0 t := by
  unfold defs₀; rw [Defs.onTc_tc]

/-- What the pipeline asks of the body, at every point. -/
theorem obligation : BodyObligation (dats (F := F) m 0 c) (defs₀ (F := F)) Variants.none () Set.univ opened := fun t => by
  rw [bigSep_W0, bigSep_W0, body_row]
  exact triple_restated (sound m c t) rfl .rfl fun _ => .rfl

set_option backward.isDefEq.respectTransparency.types false in
set_option maxHeartbeats 800000 in
/-- The run: it ends with every input array as it was, and with every semaphore counter at zero. -/
theorem run_quiescent : θ_run defs (onTc (τ := τ) (main (F := F))) (s₀ m ρ) (fun r => (Pipeline.RDat.FramePost (cfgs 0) (fun c => (dats m 0 c).toRForget opened) (V m)) r ∧ r.2.sem = fun _ => 0) :=
  Pipeline.θ_run_frame_forget_shared (Q' := _) cfgs (dats m) (0 : Fin 1) launch₀0 defs₀ Variants.none opened m ρ main
    (hbody := fun c => (obligation m c).loose) (hq := fun _ _ _ => rfl)
    (howed := fun _ _ => rfl) (V := V m) (hmain := hmain m Variants.none) (hA := arrays m) (hΦ := fun _ _ => rfl)

set_option backward.isDefEq.respectTransparency.types false in
/-- The run leaves the arguments as they were, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    (Pipeline.RDat.FramePost.arr_in h.1 c 5 rfl).trans ((arrays m c 5).trans (V_main_arg2 m c))⟩, h.2⟩) (run_quiescent m ρ)

end Cert.Kernel2.ShortConvFrame
-- ==== Proof.ShortConvRun.lean ====
/- What one grid point of the convolution call leaves in its output block and in the scratch buffer that carries rows
   from one tile to the next: the stores of the body, found by running it. -/
module

public import proofs.«01_k».proof.Proof.Gen.Kernel2Ideal.Skeleton
public import proofs.«01_k».proof.Proof.Gen.Kernel2Ideal.Frame

@[expose] public section

set_option maxRecDepth 16384

noncomputable section

namespace Cert.Kernel2Ideal.ShortConvRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a grid point is of the first tile of a sequence, as the body computes it. -/
abbrev opens (i : grid0.Coords) : Prop := k0_cond1 i = 1#1

set_option maxHeartbeats 1000000 in
/-- A point of the first tile of a sequence: the slot of its column block is cleared before it is read. -/
def first (c : Dev nD) (i : grid0.Coords) (arg2 : Memref sig .tc .vmem S2048x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S3x256 .f32) (harg7 : arg7.IsWhole) (arg8 : Memref sig .tc .vmem S2048x256 .bf16) (harg8 : arg8.IsWhole) (arg9 : Memref sig .tc .vmem S8x8x256 .f32) (harg9 : arg9.IsWhole) (hc0 : opens i)
    (x0 : Vec F S2048x4096 .bf16) (x1 x2 x3 x4 : Vec F S256x4096 .bf16) (x5 : Vec F S3x256 .f32) (s : Vec F S8x8x256 .f32) :
    { L : List (View.Piece (Elt F) S2048x256 .bf16) × List (View.Piece (Elt F) S8x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, ⌜arg9.view.read (Elt F) f = s⌝ ∗ arg9.view.loc (c : Thread nD τ) ↦[arg9.view.set]{fullShare} arg9.view.writes (Elt F) f L.2)) -∗ K ⟨⟩))
          ⊢ wp frame (wpE (defs₀ (F := F)) Variants.none c none) E (cc0_conv_group i arg2 harg2 arg3 harg3 arg4 harg4 arg5 harg5 arg6 harg6 arg7 harg7 arg8 harg8 arg9 harg9) K } := by
  refine ⟨(?_, ?_), fun E K => ?run⟩
  case run =>
    simp only [cc0_conv_group_eq_skeleton]; unfold cc0_conv_group_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; isplitr; swap; · iexact H7
    ipureintro; exact harg9.read_unread _

set_option maxHeartbeats 1000000 in
/-- A point of a later tile of a sequence: the slot holds the last rows of the tile before. -/
def later (c : Dev nD) (i : grid0.Coords) (arg2 : Memref sig .tc .vmem S2048x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S3x256 .f32) (harg7 : arg7.IsWhole) (arg8 : Memref sig .tc .vmem S2048x256 .bf16) (harg8 : arg8.IsWhole) (arg9 : Memref sig .tc .vmem S8x8x256 .f32) (harg9 : arg9.IsWhole) (hc0 : ¬opens i)
    (x0 : Vec F S2048x4096 .bf16) (x1 x2 x3 x4 : Vec F S256x4096 .bf16) (x5 : Vec F S3x256 .f32) (s : Vec F S8x8x256 .f32) :
    { L : List (View.Piece (Elt F) S2048x256 .bf16) × List (View.Piece (Elt F) S8x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L.1)
                ∗ (∃ f, ⌜arg9.view.read (Elt F) f = s⌝ ∗ arg9.view.loc (c : Thread nD τ) ↦[arg9.view.set]{fullShare} arg9.view.writes (Elt F) f L.2)) -∗ K ⟨⟩))
          ⊢ wp frame (wpE (defs₀ (F := F)) Variants.none c none) E (cc0_conv_group i arg2 harg2 arg3 harg3 arg4 harg4 arg5 harg5 arg6 harg6 arg7 harg7 arg8 harg8 arg9 harg9) K } := by
  refine ⟨(?_, ?_), fun E K => ?run⟩
  case run =>
    simp only [cc0_conv_group_eq_skeleton]; unfold cc0_conv_group_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; iexact H6
    iexists _; isplitr; swap; · iexact H7
    ipureintro; exact harg9.read_unread _

end Cert.Kernel2Ideal.ShortConvRun

end
-- ==== Proof.ShortConv.lean ====
module

public import proofs.«01_k».proof.Proof.Silu

/-! The gated short convolution as a function of the normalised inputs, the projection's weights and the taps. -/

@[expose] public section

noncomputable section
namespace ShortConv
open Idealize.ShloMosaic

variable (x : (⟨3, ![2, 4096, 4096]⟩ : Shape).Idx → EReal) (w : (⟨2, ![4096, 11840]⟩ : Shape).Idx → EReal)
  (taps : (⟨2, ![3, 2048]⟩ : Shape).Idx → EReal)

/-- The projection of position `s` of sequence `q` to column `e`. -/
def proj (q : Fin 2) (s : Fin 4096) (e : Fin 11840) : EReal := ∑ k : Fin 4096, x (ix3 q s k) * w (ix2 k e)

/-- What is convolved: the product of two projections. -/
def up (q : Fin 2) (s : Fin 4096) (b : Fin 2048) : EReal :=
  proj x w q s ⟨2048 + b, by omega⟩ * proj x w q s ⟨4096 + b, by omega⟩

/-- The same `k` positions earlier in the sequence; zero before its start. -/
def upBack (k : Nat) (q : Fin 2) (s : Fin 4096) (b : Fin 2048) : EReal :=
  if s.val < k then 0 else up x w q ⟨s - k, by omega⟩ b

/-- The causal convolution with three taps. -/
def conv (q : Fin 2) (s : Fin 4096) (b : Fin 2048) : EReal :=
  taps (ix2 0 b) * upBack x w 2 q s b + taps (ix2 1 b) * upBack x w 1 q s b + taps (ix2 2 b) * up x w q s b

/-- The gated convolution of token `r` (position `r % 4096` of sequence `r / 4096`). -/
def gated (r : Fin 8192) (b : Fin 2048) : EReal :=
  proj x w ⟨r / 4096, by omega⟩ ⟨r % 4096, by omega⟩ ⟨b, by omega⟩ * conv x w taps ⟨r / 4096, by omega⟩ ⟨r % 4096, by omega⟩ b
    * Gating.silu (proj x w ⟨r / 4096, by omega⟩ ⟨r % 4096, by omega⟩ ⟨6144 + b, by omega⟩)

end ShortConv
-- ==== Proof.ShortConvPieces.lean ====
module

public import proofs.«01_k».proof.Proof.Gen.Kernel2Ideal.Skeleton
public import proofs.«01_k».proof.Proof.ShortConv
public import Idealize.ShloMosaic.Lib.Pipeline.ValueKit
public import Idealize.ShloMosaic.Lib.Pointwise

/-! What the convolution kernel computes for a quarter of its block: 512 rows, given the eight rows before them. -/

@[expose] public section

set_option maxRecDepth 16384

noncomputable section
namespace Cert.Kernel2Ideal.ShortConvValue
open Cert.Kernel2Ideal Cert.Kernel2Ideal.Gen Idealize.ShloMosaic Idealize.ShloMosaic.TcCoe Idealize.SL.Sem
open Gating

/-- A row of a block of inputs times a row of a block of weights. -/
def prod {n : Nat} (x : (⟨2, ![n, 4096]⟩ : Shape).Idx → EReal) (w : S256x4096.Idx → EReal) (a : Fin n) (b : Fin 256) : EReal :=
  ∑ k : Fin 4096, x (ix2 a k) * w (ix2 b k)

/-- What is convolved, of a block. -/
def ups {n : Nat} (x : (⟨2, ![n, 4096]⟩ : Shape).Idx → EReal) (wc wh : S256x4096.Idx → EReal) (a : Fin n) (b : Fin 256) : EReal :=
  prod x wc a b * prod x wh a b

/-- The row `k` before row `a` of a block, the eight rows before the block being `p`. -/
def back {n : Nat} (k : Nat) (hk : k ≤ 8) (u : Fin n → Fin 256 → EReal) (p : Fin 8 → Fin 256 → EReal) (a : Fin n) (b : Fin 256) : EReal :=
  if h : a.val < k then p ⟨8 - k + a, by omega⟩ b else u ⟨a - k, by omega⟩ b

/-- The gated convolution of a block. -/
def rows {n : Nat} (x : (⟨2, ![n, 4096]⟩ : Shape).Idx → EReal) (wb wc wh wz : S256x4096.Idx → EReal) (cw : S3x256.Idx → EReal)
    (p : Fin 8 → Fin 256 → EReal) (a : Fin n) (b : Fin 256) : EReal :=
  prod x wb a b * (cw (ix2 0 b) * back 2 (by omega) (ups x wc wh) p a b + cw (ix2 1 b) * back 1 (by omega) (ups x wc wh) p a b
    + cw (ix2 2 b) * ups x wc wh a b) * silu (prod x wz a b)

/-- A row index compared with two. -/
theorem below_two : ∀ a : Fin 8, IntOp.cmpi CmpIPredicate.slt (BitVec.ofNat 32 a.val) 2#32 = if a.val < 2 then 1#1 else 0#1 := by
  decide

/-- A row index compared with one. -/
theorem below_one : ∀ a : Fin 8, IntOp.cmpi CmpIPredicate.slt (BitVec.ofNat 32 a.val) 1#32 = if a.val < 1 then 1#1 else 0#1 := by
  decide

/-- The rows of a block moved down by two, the first two taken from before the block. -/
theorem back_two (u : FVec Ideal S512x256 .f32) (p : FVec Ideal S8x256 .f32) (a : Fin 512) (b : Fin 256) :
    (concatenate S512x256 0 [⟨S8x256, select (cmpi .slt (iota .tc S8x256 32 [0] iota_S8x256_d0_w32) (broadcast S8x256 2#32))
        (dynamicRotate 0 2#32 none p rotates_S8x256_d0)
        (extractStridedSlice S8x256 ![0, 0] (dynamicRotate 0 2#32 none u rotates_S512x256_d0) slices_S512x256_o0_0_S8x256)⟩,
      ⟨S504x256, extractStridedSlice S504x256 ![8, 0] (dynamicRotate 0 2#32 none u rotates_S512x256_d0) slices_S512x256_o8_0_S504x256⟩]
      concatenates_S8x256_S504x256_S512x256_d0 : FVec Ideal S512x256 .f32) (ix2 a b)
      = back 2 (by omega) (fun a b => u (ix2 a b)) (fun a b => p (ix2 a b)) a b := by
  pointwise
  unfold back
  by_cases h8 : a.val < 8
  · rw [dif_pos h8, below_two ⟨a.val, h8⟩]
    by_cases hk : a.val < 2
    · rw [dif_pos hk, if_pos hk]
      exact congrArg p (congrArg (fun r => ix2 r b) (Fin.ext (by show (a.val + 8 - 2) % 8 = 8 - 2 + a.val; omega)))
    · rw [dif_neg hk, if_neg hk]
      exact congrArg u (congrArg (fun r => ix2 r b) (Fin.ext (by show (a.val + 512 - 2) % 512 = a.val - 2; omega)))
  · rw [dif_neg h8, dif_neg (show ¬ a.val < 2 by omega)]
    exact congrArg u (congrArg (fun r => ix2 r b) (Fin.ext (by show (8 + (a.val - 8) + 512 - 2) % 512 = a.val - 2; omega)))

/-- The rows of a block moved down by one, the first taken from before the block. -/
theorem back_one (u : FVec Ideal S512x256 .f32) (p : FVec Ideal S8x256 .f32) (a : Fin 512) (b : Fin 256) :
    (concatenate S512x256 0 [⟨S8x256, select (cmpi .slt (iota .tc S8x256 32 [0] iota_S8x256_d0_w32) (broadcast S8x256 1#32))
        (dynamicRotate 0 1#32 none p rotates_S8x256_d0)
        (extractStridedSlice S8x256 ![0, 0] (dynamicRotate 0 1#32 none u rotates_S512x256_d0) slices_S512x256_o0_0_S8x256)⟩,
      ⟨S504x256, extractStridedSlice S504x256 ![8, 0] (dynamicRotate 0 1#32 none u rotates_S512x256_d0) slices_S512x256_o8_0_S504x256⟩]
      concatenates_S8x256_S504x256_S512x256_d0 : FVec Ideal S512x256 .f32) (ix2 a b)
      = back 1 (by omega) (fun a b => u (ix2 a b)) (fun a b => p (ix2 a b)) a b := by
  pointwise
  unfold back
  by_cases h8 : a.val < 8
  · rw [dif_pos h8, below_one ⟨a.val, h8⟩]
    by_cases hk : a.val < 1
    · rw [dif_pos hk, if_pos hk]
      exact congrArg p (congrArg (fun r => ix2 r b) (Fin.ext (by show (a.val + 8 - 1) % 8 = 8 - 1 + a.val; omega)))
    · rw [dif_neg hk, if_neg hk]
      exact congrArg u (congrArg (fun r => ix2 r b) (Fin.ext (by show (a.val + 512 - 1) % 512 = a.val - 1; omega)))
  · rw [dif_neg h8, dif_neg (show ¬ a.val < 1 by omega)]
    exact congrArg u (congrArg (fun r => ix2 r b) (Fin.ext (by show (8 + (a.val - 8) + 512 - 1) % 512 = a.val - 1; omega)))

/-- What is convolved, of the first quarter. -/
theorem ups_first (x : Vec Ideal S512x4096 .bf16) (wc wh : Vec Ideal S256x4096 .bf16) (a : Fin 512) (b : Fin 256) :
    k0_pay5 (F := Ideal) x wc wh (ix2 a b) = ups x wc wh a b := by
  pointwise [k0_pay5, k0_pay4]
  rfl

/-- What is convolved, of the second quarter. -/
theorem ups_second (x : Vec Ideal S512x4096 .bf16) (wc wh : Vec Ideal S256x4096 .bf16) (a : Fin 512) (b : Fin 256) :
    k0_pay12 (F := Ideal) (k0_pay11 x) wc wh (ix2 a b) = ups x wc wh a b := by
  pointwise [k0_pay12, k0_pay11]
  rfl

/-- What is convolved, of the third quarter. -/
theorem ups_third (x : Vec Ideal S512x4096 .bf16) (wc wh : Vec Ideal S256x4096 .bf16) (a : Fin 512) (b : Fin 256) :
    k0_pay19 (F := Ideal) x wc wh (ix2 a b) = ups x wc wh a b := by
  pointwise [k0_pay19, k0_pay18]
  rfl

/-- What is convolved, of the last quarter. -/
theorem ups_last (x : Vec Ideal S512x4096 .bf16) (wc wh : Vec Ideal S256x4096 .bf16) (a : Fin 512) (b : Fin 256) :
    k0_pay25 (F := Ideal) x wc wh (ix2 a b) = ups x wc wh a b := by
  pointwise [k0_pay25, k0_pay24]
  rfl

/-- The gated sum of three rows. -/
def tail (c2 c1 u : FVec Ideal S512x256 .f32) (cw : FVec Ideal S3x256 .f32) (x : FVec Ideal S512x4096 .bf16) (wb wz : FVec Ideal S256x4096 .bf16) :
    FVec Ideal S512x256 .bf16 :=
  truncf .bf16 (mulf
    (mulf (matmul dot_S512x4096_S256x4096_S512x256_1_1_0_0_n_n none x (shapeCast S256x4096 wb shapeCasts_S256x4096_S256x4096) (constant S512x256 .f32 0x00000000#32))
      (addf (addf (mulf (broadcastTo S512x256 (extractStridedSlice S1x256 ![0, 0] cw slices_S3x256_o0_0_S1x256) broadcasts_S1x256_S512x256) c2)
        (mulf (broadcastTo S512x256 (extractStridedSlice S1x256 ![1, 0] cw slices_S3x256_o1_0_S1x256) broadcasts_S1x256_S512x256) c1))
        (mulf (broadcastTo S512x256 (extractStridedSlice S1x256 ![2, 0] cw slices_S3x256_o2_0_S1x256) broadcasts_S1x256_S512x256) u)))
    (mulf (matmul dot_S512x4096_S256x4096_S512x256_1_1_0_0_n_n none x (shapeCast S256x4096 wz shapeCasts_S256x4096_S256x4096) (constant S512x256 .f32 0x00000000#32))
      (mulf (broadcast S512x256 (Scalar.ofBits .f32 0x3F000000#32)) (addf (tanh (mulf (broadcast S512x256 (Scalar.ofBits .f32 0x3F000000#32))
        (matmul dot_S512x4096_S256x4096_S512x256_1_1_0_0_n_n none x (shapeCast S256x4096 wz shapeCasts_S256x4096_S256x4096) (constant S512x256 .f32 0x00000000#32))))
        (broadcast S512x256 (Scalar.ofBits .f32 0x3F800000#32)))))) bitsLt_bf16_f32

/-- An entry of the gated sum. -/
theorem tail_at (c2 c1 u : FVec Ideal S512x256 .f32) (cw : FVec Ideal S3x256 .f32) (x : FVec Ideal S512x4096 .bf16) (wb wz : FVec Ideal S256x4096 .bf16)
    (a : Fin 512) (b : Fin 256) :
    tail c2 c1 u cw x wb wz (ix2 a b) = prod x wb a b * (cw (ix2 0 b) * c2 (ix2 a b) + cw (ix2 1 b) * c1 (ix2 a b) + cw (ix2 2 b) * u (ix2 a b))
      * silu (prod x wz a b) := by
  rw [← silu_tanh]
  pointwise [tail]
  rfl

/-- An entry of the gated sum when the rows summed are those of a block. -/
theorem tail_rows (u : FVec Ideal S512x256 .f32) (p : FVec Ideal S8x256 .f32) (cw : FVec Ideal S3x256 .f32) (x y : FVec Ideal S512x4096 .bf16)
    (wb wc wh wz : FVec Ideal S256x4096 .bf16) (hu : ∀ a b, u (ix2 a b) = ups y wc wh a b) (hx : x = y) (a : Fin 512) (b : Fin 256) (q : FVec Ideal S512x256 .bf16)
    (hq : q = tail (concatenate S512x256 0 [⟨S8x256, select (cmpi .slt (iota .tc S8x256 32 [0] iota_S8x256_d0_w32) (broadcast S8x256 2#32))
        (dynamicRotate 0 2#32 none p rotates_S8x256_d0)
        (extractStridedSlice S8x256 ![0, 0] (dynamicRotate 0 2#32 none u rotates_S512x256_d0) slices_S512x256_o0_0_S8x256)⟩,
      ⟨S504x256, extractStridedSlice S504x256 ![8, 0] (dynamicRotate 0 2#32 none u rotates_S512x256_d0) slices_S512x256_o8_0_S504x256⟩]
      concatenates_S8x256_S504x256_S512x256_d0)
      (concatenate S512x256 0 [⟨S8x256, select (cmpi .slt (iota .tc S8x256 32 [0] iota_S8x256_d0_w32) (broadcast S8x256 1#32))
        (dynamicRotate 0 1#32 none p rotates_S8x256_d0)
        (extractStridedSlice S8x256 ![0, 0] (dynamicRotate 0 1#32 none u rotates_S512x256_d0) slices_S512x256_o0_0_S8x256)⟩,
      ⟨S504x256, extractStridedSlice S504x256 ![8, 0] (dynamicRotate 0 1#32 none u rotates_S512x256_d0) slices_S512x256_o8_0_S504x256⟩]
      concatenates_S8x256_S504x256_S512x256_d0) u cw x wb wz) :
    q (ix2 a b) = rows y wb wc wh wz cw (fun a b => p (ix2 a b)) a b := by
  subst hx
  rw [hq, tail_at, back_two, back_one, rows, hu, show (fun a b => u (ix2 a b)) = ups x wc wh from funext fun a => funext fun b => hu a b]

/-- A whole load recast to its own shape. -/
theorem recast (x : FVec Ideal S512x4096 .bf16) : shapeCast S512x4096 x shapeCasts_S512x4096_S512x4096 = x := by
  funext i; idx_vars i; pointwise

variable (cw : Vec Ideal S3x256 .f32) (x : Vec Ideal S512x4096 .bf16) (wb wc wh wz : Vec Ideal S256x4096 .bf16) (a : Fin 512) (b : Fin 256)

/-- The first quarter. -/
theorem rows_first (o : Vec Ideal S1x8x256 .f32) :
    k0_pay9 (F := Ideal) (k0_pay3 o) (iota .tc S8x256 32 [0] iota_S8x256_d0_w32) cw (k0_pay4 x) (k0_pay5 x wc wh) (k0_pay6 cw) (k0_pay7 x wc wh)
      (k0_pay8 o x wc wh) wb wz (ix2 a b) = rows x wb wc wh wz cw (fun a b => o (ix3 0 a b)) a b := by
  refine (tail_rows (k0_pay5 x wc wh) (k0_pay3 o) cw (k0_pay4 x) x wb wc wh wz (ups_first x wc wh) (recast x) a b _ rfl).trans ?_
  congr 1
  funext a b
  pointwise [k0_pay3]

/-- The second quarter. -/
theorem rows_second (u : FVec Ideal S512x256 .f32) :
    k0_pay16 (F := Ideal) (k0_pay13 (iota .tc S8x256 32 [0] iota_S8x256_d0_w32) cw (k0_pay10 u) (k0_pay11 x) wc wh wb)
      (k0_pay14 (k0_pay11 x) wz) (k0_pay15 (k0_pay11 x) wz) (ix2 a b) = rows x wb wc wh wz cw (fun a b => u (ix2 ⟨504 + a, by omega⟩ b)) a b := by
  refine (tail_rows (k0_pay12 (k0_pay11 x) wc wh) (k0_pay10 u) cw (k0_pay11 x) x wb wc wh wz (ups_second x wc wh) (recast x) a b _ rfl).trans ?_
  congr 1
  funext a b
  pointwise [k0_pay10]

/-- The third quarter. -/
theorem rows_third (u : FVec Ideal S512x256 .f32) :
    k0_pay22 (F := Ideal) cw (k0_pay18 x) (k0_pay19 x wc wh) (k0_pay20 (iota .tc S8x256 32 [0] iota_S8x256_d0_w32) cw u x wc wh)
      (k0_pay21 (iota .tc S8x256 32 [0] iota_S8x256_d0_w32) cw u x wc wh) wb wz (ix2 a b) = rows x wb wc wh wz cw (fun a b => u (ix2 ⟨504 + a, by omega⟩ b)) a b := by
  refine (tail_rows (k0_pay19 x wc wh) (k0_pay17 u) cw (k0_pay18 x) x wb wc wh wz (ups_third x wc wh) (recast x) a b _ rfl).trans ?_
  congr 1
  funext a b
  pointwise [k0_pay17]

/-- The last quarter. -/
theorem rows_last (u : FVec Ideal S512x256 .f32) :
    k0_pay29 (F := Ideal) (iota .tc S8x256 32 [0] iota_S8x256_d0_w32) cw (k0_pay23 u) (k0_pay24 x) (k0_pay25 x wc wh) (k0_pay26 cw) (k0_pay27 x wc wh)
      (k0_pay28 (iota .tc S8x256 32 [0] iota_S8x256_d0_w32)) 2#32 wb wz (ix2 a b) = rows x wb wc wh wz cw (fun a b => u (ix2 ⟨504 + a, by omega⟩ b)) a b := by
  refine (tail_rows (k0_pay25 x wc wh) (k0_pay23 u) cw (k0_pay24 x) x wb wc wh wz (ups_last x wc wh) (recast x) a b _ rfl).trans ?_
  congr 1
  funext a b
  pointwise [k0_pay23]

end Cert.Kernel2Ideal.ShortConvValue
-- ==== Proof.ShortConvBlock.lean ====
module

public import proofs.«01_k».proof.Proof.ShortConvRun
public import proofs.«01_k».proof.Proof.ShortConvPieces
public import Idealize.ShloMosaic.Lib.WholeRead
public import Idealize.ShloMosaic.Lib.WritesUnit

/-! What a point of the convolution kernel leaves, in terms of the blocks it is given and of the rows carried to it. -/

@[expose] public section

set_option maxRecDepth 16384

noncomputable section
namespace Cert.Kernel2Ideal.ShortConvValue
open Cert.Kernel2Ideal Cert.Kernel2Ideal.Gen Idealize.ShloMosaic Idealize.ShloMosaic.TcCoe Idealize.SL.Sem
open Gating

/-- The gated convolution of 512 consecutive rows of a block, the rows before them being those of the block, is that of the block. -/
theorem rows_part (x : Vec Ideal S2048x4096 .bf16) (x' : Vec Ideal S512x4096 .bf16) (wb wc wh wz wb' wc' wh' wz' : Vec Ideal S256x4096 .bf16) (cw cw' : Vec Ideal S3x256 .f32)
    (hb : wb' = wb) (hc : wc' = wc) (hh : wh' = wh) (hz : wz' = wz) (ht : cw' = cw) (p p' : Fin 8 → Fin 256 → EReal) (o : Nat) (ho : o + 512 ≤ 2048) (hx : ∀ (a : Fin 512) k, x' (ix2 a k) = x (ix2 ⟨o + a, by omega⟩ k))
    (h0 : o = 0 → p' = p) (hp : ∀ h8 : 8 ≤ o, ∀ (j : Fin 8) b, p' j b = ups x wc wh ⟨o + j - 8, by omega⟩ b) (h : o = 0 ∨ 8 ≤ o)
    (a : Fin 512) (b : Fin 256) (r : Fin 2048) (hr : r.val = o + a) :
    rows x' wb' wc' wh' wz' cw' p' a b = rows x wb wc wh wz cw p r b := by
  rw [hb, hc, hh, hz, ht]
  have hprod : ∀ (w : Vec Ideal S256x4096 .bf16) (a : Fin 512) (r : Fin 2048), r.val = o + a → prod x' w a b = prod x w r b := fun w a r hr => by
    unfold prod
    refine Finset.sum_congr rfl fun k _ => ?_
    rw [hx, show (⟨o + a, by omega⟩ : Fin 2048) = r from Fin.ext hr.symm]
  have hups : ∀ (a : Fin 512) (r : Fin 2048), r.val = o + a → ups x' wc wh a b = ups x wc wh r b := fun a r hr => by
    unfold ups
    rw [hprod wc a r hr, hprod wh a r hr]
  have hback : ∀ (k : Nat) (hk : k ≤ 8), back k hk (ups x' wc wh) p' a b = back k hk (ups x wc wh) p r b := fun k hk => by
    unfold back
    by_cases ha : a.val < k
    · rw [dif_pos ha]
      rcases h with h | h
      · rw [dif_pos (by omega), h0 h]
        exact congrArg (fun j => p j b) (Fin.ext (by show 8 - k + a.val = 8 - k + r.val; omega))
      · rw [dif_neg (by omega), hp h]
        exact congrArg (fun r => ups x wc wh r b) (Fin.ext (by show o + (8 - k + a.val) - 8 = r.val - k; omega))
    · rw [dif_neg ha, dif_neg (by omega)]
      exact hups _ _ (by show r.val - k = o + (a.val - k); omega)
  unfold rows
  rw [hprod wb a r hr, hprod wz a r hr, hups a r hr, hback, hback]

/-- What is convolved, of 512 consecutive rows of a block. -/
theorem ups_part (x : Vec Ideal S2048x4096 .bf16) (x' : Vec Ideal S512x4096 .bf16) (wc wh wc' wh' : Vec Ideal S256x4096 .bf16) (hc : wc' = wc) (hh : wh' = wh) (o : Nat) (ho : o + 512 ≤ 2048)
    (hx : ∀ (a : Fin 512) k, x' (ix2 a k) = x (ix2 ⟨o + a, by omega⟩ k)) (a : Fin 512) (b : Fin 256) (r : Fin 2048) (hr : r.val = o + a) :
    ups x' wc' wh' a b = ups x wc wh r b := by
  rw [hc, hh]
  unfold ups prod
  simp only [hx, show (⟨o + a, by omega⟩ : Fin 2048) = r from Fin.ext hr.symm]

/-- A load of 512 rows of a buffer. -/
theorem load_rows (M : Memref sig .tc .vmem S2048x4096 .bf16) (hM : M.IsWhole) (x : Vec Ideal S2048x4096 .bf16) (o : Nat)
    (inb : ∀ a, (![o, 0] : Fin 2 → Nat) a + S512x4096.size a ≤ S2048x4096.size a) (a : Fin 512) (k : Fin 4096) (h : o + a.val < 2048) :
    (View.readAt (Elt Ideal) M.view (Rect.unit (s := S2048x4096) ![o, 0] S512x4096.size inb).toLoadRect (hM.unread x) : Vec Ideal S512x4096 .bf16) (ix2 a k)
      = x (ix2 ⟨o + a, h⟩ k) := by
  refine (hM.readAt_unread x _ _).trans (congrArg x (funext fun e => Fin.ext ?_))
  match e with
  | ⟨0, _⟩ => show o + 1 * a.val = o + a.val; omega
  | ⟨1, _⟩ => show 0 + 1 * k.val = k.val; omega

/-- A load of all the weights of a buffer. -/
theorem load_weights (M : Memref sig .tc .vmem S256x4096 .bf16) (hM : M.IsWhole) (x : Vec Ideal S256x4096 .bf16)
    (inb : ∀ a, (![0, 0] : Fin 2 → Nat) a + S256x4096.size a ≤ S256x4096.size a) :
    (View.readAt (Elt Ideal) M.view (Rect.unit (s := S256x4096) ![0, 0] S256x4096.size inb).toLoadRect (hM.unread x) : Vec Ideal S256x4096 .bf16) = x := by
  funext i
  refine (hM.readAt_unread x _ _).trans (congrArg x (funext fun e => Fin.ext ?_))
  match e with
  | ⟨0, _⟩ => show 0 + 1 * (i 0).val = (i 0).val; omega
  | ⟨1, _⟩ => show 0 + 1 * (i 1).val = (i 1).val; omega

/-- A load of all the taps of a buffer. -/
theorem load_taps (M : Memref sig .tc .vmem S3x256 .f32) (hM : M.IsWhole) (x : Vec Ideal S3x256 .f32)
    (inb : ∀ a, (![0, 0] : Fin 2 → Nat) a + S3x256.size a ≤ S3x256.size a) :
    (View.readAt (Elt Ideal) M.view (Rect.unit (s := S3x256) ![0, 0] S3x256.size inb).toLoadRect (hM.unread x) : Vec Ideal S3x256 .f32) = x := by
  funext i
  refine (hM.readAt_unread x _ _).trans (congrArg x (funext fun e => Fin.ext ?_))
  match e with
  | ⟨0, _⟩ => show 0 + 1 * (i 0).val = (i 0).val; omega
  | ⟨1, _⟩ => show 0 + 1 * (i 1).val = (i 1).val; omega

/-- A load of a slot of the carried rows. -/
theorem load_slot (M : Memref sig .tc .vmem S8x8x256 .f32) (hM : M.IsWhole) (x : Vec Ideal S8x8x256 .f32) (off : Fin 3 → Nat) (q : Fin 8)
    (ho : off = ![q.val, 0, 0])
    (inb : ∀ a, off a + S1x8x256.size a ≤ S8x8x256.size a) (a : Fin 8) (b : Fin 256) :
    (View.readAt (Elt Ideal) M.view (Rect.unit (s := S8x8x256) off S1x8x256.size inb).toLoadRect (hM.unread x) : Vec Ideal S1x8x256 .f32) (ix3 0 a b) = x (ix3 q a b) := by
  subst ho
  refine (hM.readAt_unread x _ _).trans (congrArg x (funext fun e => Fin.ext ?_))
  match e with
  | ⟨0, _⟩ => show q.val + 1 * 0 = q.val; omega
  | ⟨1, _⟩ => show 0 + 1 * a.val = a.val; omega
  | ⟨2, _⟩ => show 0 + 1 * b.val = b.val; omega

variable (c : Dev nD) (i : grid0.Coords) (arg2 : Memref sig .tc .vmem S2048x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S256x4096 .bf16) (harg6 : arg6.IsWhole) (arg7 : Memref sig .tc .vmem S3x256 .f32) (harg7 : arg7.IsWhole) (arg8 : Memref sig .tc .vmem S2048x256 .bf16) (harg8 : arg8.IsWhole) (arg9 : Memref sig .tc .vmem S8x8x256 .f32) (harg9 : arg9.IsWhole)
    (x0 : Vec Ideal S2048x4096 .bf16) (x1 x2 x3 x4 : Vec Ideal S256x4096 .bf16) (x5 : Vec Ideal S3x256 .f32) (s : Vec Ideal S8x8x256 .f32)

/-- The output block of a point of a later tile. -/
theorem later_block (hc0 : ¬ShortConvRun.opens i) (q : Fin 8) (hq : (i 1).val = q.val) (r : Fin 2048) (b : Fin 256) :
    View.canon (ShortConvRun.later c i arg2 harg2 arg3 harg3 arg4 harg4 arg5 harg5 arg6 harg6 arg7 harg7 arg8 harg8 arg9 harg9 hc0 x0 x1 x2 x3 x4 x5 s).1.1 (ix2 r b)
      = rows x0 x1 x2 x3 x4 x5 (fun a b => s (ix3 q a b)) r b := by
  unfold ShortConvRun.later
  dsimp only
  canon_tiles y h
  all_goals idx_vars y
  · obtain rfl : b = y1 := Fin.ext h1
    refine (rows_last _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 1536 (by omega) (fun a k => load_rows arg2 harg2 x0 1536 _ a k (by omega)) ?_ ?_ (by omega) y0 b r (by omega)
    · intro h; omega
    · intro _ j b'
      refine (ups_third _ _ _ _ _).trans ?_
      exact ups_part x0 _ x2 x3 _ _ (load_weights arg4 harg4 x2 _) (load_weights arg5 harg5 x3 _) 1024 (by omega) (fun a k => load_rows arg2 harg2 x0 1024 _ a k (by omega)) _ _ _ (by show 1536 + j.val - 8 = 1024 + (504 + j.val); omega)
  · obtain rfl : b = y1 := Fin.ext h1
    refine (rows_third _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 1024 (by omega) (fun a k => load_rows arg2 harg2 x0 1024 _ a k (by omega)) ?_ ?_ (by omega) y0 b r (by omega)
    · intro h; omega
    · intro _ j b'
      refine (ups_second _ _ _ _ _).trans ?_
      exact ups_part x0 _ x2 x3 _ _ (load_weights arg4 harg4 x2 _) (load_weights arg5 harg5 x3 _) 512 (by omega) (fun a k => load_rows arg2 harg2 x0 512 _ a k (by omega)) _ _ _ (by show 1024 + j.val - 8 = 512 + (504 + j.val); omega)
  · obtain rfl : b = y1 := Fin.ext h1
    refine (rows_second _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 512 (by omega) (fun a k => load_rows arg2 harg2 x0 512 _ a k (by omega)) ?_ ?_ (by omega) y0 b r (by omega)
    · intro h; omega
    · intro _ j b'
      refine (ups_first _ _ _ _ _).trans ?_
      exact ups_part x0 _ x2 x3 _ _ (load_weights arg4 harg4 x2 _) (load_weights arg5 harg5 x3 _) 0 (by omega) (fun a k => load_rows arg2 harg2 x0 0 _ a k (by omega)) _ _ _ (by show 512 + j.val - 8 = 0 + (504 + j.val); omega)
  · obtain rfl : b = y1 := Fin.ext h1
    refine (rows_first _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 0 (by omega) (fun a k => load_rows arg2 harg2 x0 0 _ a k (by omega)) ?_ ?_ (by omega) y0 b r (by omega)
    · intro _
      funext a b'
      exact load_slot arg9 harg9 s _ q ((k0_off2_eq i).trans (by rw [hq])) _ a b'
    · intro h; omega

/-- A load of what was just stored there. -/
theorem load_stored (v : View sig .tc .vmem S8x8x256 .f32) (off off' : Fin 3 → Nat) (h : off = off')
    (inb : ∀ a, off a + S1x8x256.size a ≤ S8x8x256.size a) (inb' : ∀ a, off' a + S1x8x256.size a ≤ S8x8x256.size a) (w : Vec Ideal S1x8x256 .f32) :
    (v.readCov [(⟨Rect.unit (s := S8x8x256) off S1x8x256.size inb, w⟩ : View.Piece (Elt Ideal) S8x8x256 .f32)]
      (Rect.unit (s := S8x8x256) off' S1x8x256.size inb').toLoadRect : Vec Ideal S1x8x256 .f32) = w := by
  subst h
  exact View.readCov_cons_toLoadRect _ _ _ _

/-- A load of a slot just cleared. -/
theorem load_cleared (hc0 : ShortConvRun.opens i) (a : Fin 8) (b : Fin 256) :
    (ShortConvRun.first.sl.v14 (F := Ideal) c i arg9 hc0 : Vec Ideal S1x8x256 .f32) (ix3 0 a b) = 0 := by
  unfold ShortConvRun.first.sl.v14
  refine (congrFun (load_stored arg9.view (k0_off1 i) (k0_off2 i) ((k0_off1_eq i).trans (k0_off2_eq i).symm) _ _ (k0_pay2 (F := Ideal))) (ix3 0 a b)).trans ?_
  pointwise [k0_pay2]

/-- The output block of a point of the first tile. -/
theorem first_block (hc0 : ShortConvRun.opens i) (q : Fin 8) (hq : (i 1).val = q.val) (r : Fin 2048) (b : Fin 256) :
    View.canon (ShortConvRun.first c i arg2 harg2 arg3 harg3 arg4 harg4 arg5 harg5 arg6 harg6 arg7 harg7 arg8 harg8 arg9 harg9 hc0 x0 x1 x2 x3 x4 x5 s).1.1 (ix2 r b)
      = rows x0 x1 x2 x3 x4 x5 (fun _ _ => 0) r b := by
  unfold ShortConvRun.first
  dsimp only
  canon_tiles y h
  all_goals idx_vars y
  · obtain rfl : b = y1 := Fin.ext h1
    refine (rows_last _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 1536 (by omega) (fun a k => load_rows arg2 harg2 x0 1536 _ a k (by omega)) ?_ ?_ (by omega) y0 b r (by omega)
    · intro h; omega
    · intro _ j b'
      refine (ups_third _ _ _ _ _).trans ?_
      exact ups_part x0 _ x2 x3 _ _ (load_weights arg4 harg4 x2 _) (load_weights arg5 harg5 x3 _) 1024 (by omega) (fun a k => load_rows arg2 harg2 x0 1024 _ a k (by omega)) _ _ _ (by show 1536 + j.val - 8 = 1024 + (504 + j.val); omega)
  · obtain rfl : b = y1 := Fin.ext h1
    refine (rows_third _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 1024 (by omega) (fun a k => load_rows arg2 harg2 x0 1024 _ a k (by omega)) ?_ ?_ (by omega) y0 b r (by omega)
    · intro h; omega
    · intro _ j b'
      refine (ups_second _ _ _ _ _).trans ?_
      exact ups_part x0 _ x2 x3 _ _ (load_weights arg4 harg4 x2 _) (load_weights arg5 harg5 x3 _) 512 (by omega) (fun a k => load_rows arg2 harg2 x0 512 _ a k (by omega)) _ _ _ (by show 1024 + j.val - 8 = 512 + (504 + j.val); omega)
  · obtain rfl : b = y1 := Fin.ext h1
    refine (rows_second _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 512 (by omega) (fun a k => load_rows arg2 harg2 x0 512 _ a k (by omega)) ?_ ?_ (by omega) y0 b r (by omega)
    · intro h; omega
    · intro _ j b'
      refine (ups_first _ _ _ _ _).trans ?_
      exact ups_part x0 _ x2 x3 _ _ (load_weights arg4 harg4 x2 _) (load_weights arg5 harg5 x3 _) 0 (by omega) (fun a k => load_rows arg2 harg2 x0 0 _ a k (by omega)) _ _ _ (by show 512 + j.val - 8 = 0 + (504 + j.val); omega)
  · obtain rfl : b = y1 := Fin.ext h1
    refine (rows_first _ _ _ _ _ _ y0 b _).trans ?_
    refine rows_part x0 _ x1 x2 x3 x4 _ _ _ _ x5 _ (load_weights arg3 harg3 x1 _) (load_weights arg4 harg4 x2 _) (load_weights arg5 harg5 x3 _) (load_weights arg6 harg6 x4 _) (load_taps arg7 harg7 x5 _) _ _ 0 (by omega) (fun a k => load_rows arg2 harg2 x0 0 _ a k (by omega)) ?_ ?_ (by omega) y0 b r (by omega)
    · intro _
      funext a b'
      exact load_cleared c i arg9 hc0 a b'
    · intro h; omega

/-- The rows kept for the next tile: the last eight of the block. -/
theorem kept_rows (x' : Vec Ideal S512x4096 .bf16) (wc wh : Vec Ideal S256x4096 .bf16) (a : Fin 8) (b : Fin 256) :
    k0_pay1 (F := Ideal) (k0_pay30 (k0_pay25 x' wc wh)) (ix3 0 a b) = ups x' wc wh ⟨504 + a, by omega⟩ b := by
  pointwise [k0_pay1, k0_pay30]
  exact ups_last x' wc wh _ b

/-- The carried rows after a point of a later tile: the point's slot holds the last rows of its block. -/
theorem later_slot (hc0 : ¬ShortConvRun.opens i) (q : Fin 8) (hq : (i 1).val = q.val) (f : arg9.view.ty.Contents (Elt Ideal)) (a : Fin 8) (b : Fin 256) :
    arg9.view.read (Elt Ideal) (arg9.view.writes (Elt Ideal) f (ShortConvRun.later c i arg2 harg2 arg3 harg3 arg4 harg4 arg5 harg5 arg6 harg6 arg7 harg7 arg8 harg8 arg9 harg9 hc0 x0 x1 x2 x3 x4 x5 s).1.2) (ix3 q a b)
      = ups x0 x2 x3 ⟨2040 + a, by omega⟩ b := by
  unfold ShortConvRun.later
  refine (View.read_writes_cons_unit_of_mem (s := S8x8x256) arg9.view f _ _ _ (ix3 q a b) (ix3 0 a b) ((k0_off2_eq i).trans (by rw [hq])) ?_).trans ?_
  · intro e
    match e with
    | ⟨0, _⟩ => rfl
    | ⟨1, _⟩ => show a.val = 0 + a.val; omega
    | ⟨2, _⟩ => show b.val = 0 + b.val; omega
  · refine (kept_rows _ _ _ a b).trans ?_
    exact ups_part x0 _ x2 x3 _ _ (load_weights arg4 harg4 x2 _) (load_weights arg5 harg5 x3 _) 1536 (by omega) (fun a k => load_rows arg2 harg2 x0 1536 _ a k (by omega)) _ _ _ (by show 2040 + a.val = 1536 + (504 + a.val); omega)

/-- The other slots are as before. -/
theorem later_others (hc0 : ¬ShortConvRun.opens i) (q : Fin 8) (hq : (i 1).val ≠ q.val) (f : arg9.view.ty.Contents (Elt Ideal)) (a : Fin 8) (b : Fin 256) :
    arg9.view.read (Elt Ideal) (arg9.view.writes (Elt Ideal) f (ShortConvRun.later c i arg2 harg2 arg3 harg3 arg4 harg4 arg5 harg5 arg6 harg6 arg7 harg7 arg8 harg8 arg9 harg9 hc0 x0 x1 x2 x3 x4 x5 s).1.2) (ix3 q a b)
      = arg9.view.read (Elt Ideal) f (ix3 q a b) := by
  unfold ShortConvRun.later
  refine (View.read_writes_cons_unit_of_not_mem (s := S8x8x256) arg9.view f _ _ _ (ix3 q a b) (k0_off2_eq i) 0 ?_).trans ?_
  · show q.val < (i 1).val ∨ (i 1).val + 1 ≤ q.val
    omega
  rfl

/-- The carried rows after a point of the first tile: the point's slot holds the last rows of its block. -/
theorem first_slot (hc0 : ShortConvRun.opens i) (q : Fin 8) (hq : (i 1).val = q.val) (f : arg9.view.ty.Contents (Elt Ideal)) (a : Fin 8) (b : Fin 256) :
    arg9.view.read (Elt Ideal) (arg9.view.writes (Elt Ideal) f (ShortConvRun.first c i arg2 harg2 arg3 harg3 arg4 harg4 arg5 harg5 arg6 harg6 arg7 harg7 arg8 harg8 arg9 harg9 hc0 x0 x1 x2 x3 x4 x5 s).1.2) (ix3 q a b)
      = ups x0 x2 x3 ⟨2040 + a, by omega⟩ b := by
  unfold ShortConvRun.first
  refine (View.read_writes_cons_unit_of_mem (s := S8x8x256) arg9.view f _ _ _ (ix3 q a b) (ix3 0 a b) ((k0_off2_eq i).trans (by rw [hq])) ?_).trans ?_
  · intro e
    match e with
    | ⟨0, _⟩ => rfl
    | ⟨1, _⟩ => show a.val = 0 + a.val; omega
    | ⟨2, _⟩ => show b.val = 0 + b.val; omega
  · refine (kept_rows _ _ _ a b).trans ?_
    exact ups_part x0 _ x2 x3 _ _ (load_weights arg4 harg4 x2 _) (load_weights arg5 harg5 x3 _) 1536 (by omega) (fun a k => load_rows arg2 harg2 x0 1536 _ a k (by omega)) _ _ _ (by show 2040 + a.val = 1536 + (504 + a.val); omega)

/-- The other slots are as before. -/
theorem first_others (hc0 : ShortConvRun.opens i) (q : Fin 8) (hq : (i 1).val ≠ q.val) (f : arg9.view.ty.Contents (Elt Ideal)) (a : Fin 8) (b : Fin 256) :
    arg9.view.read (Elt Ideal) (arg9.view.writes (Elt Ideal) f (ShortConvRun.first c i arg2 harg2 arg3 harg3 arg4 harg4 arg5 harg5 arg6 harg6 arg7 harg7 arg8 harg8 arg9 harg9 hc0 x0 x1 x2 x3 x4 x5 s).1.2) (ix3 q a b)
      = arg9.view.read (Elt Ideal) f (ix3 q a b) := by
  unfold ShortConvRun.first
  refine (View.read_writes_cons_unit_of_not_mem (s := S8x8x256) arg9.view f _ _ _ (ix3 q a b) (k0_off2_eq i) 0 ?_).trans ?_
  · show q.val < (i 1).val ∨ (i 1).val + 1 ≤ q.val
    omega
  refine (View.read_writes_cons_unit_of_not_mem (s := S8x8x256) arg9.view f _ _ _ (ix3 q a b) (k0_off1_eq i) 0 ?_).trans ?_
  · show q.val < (i 1).val ∨ (i 1).val + 1 ≤ q.val
    omega
  rfl

end Cert.Kernel2Ideal.ShortConvValue
-- ==== Proof.ShortConvData.lean ====
module

public import proofs.«01_k».proof.Proof.ShortConvBlock
public import Idealize.ShloMosaic.Lib.Pipeline.FrameBody
public import Idealize.ShloMosaic.Lib.Claim

/-! The convolution kernel's run: what every point leaves in its output block and in the rows it carries, and, from it,
the final contents of the result array block by block. -/

@[expose] public section

set_option maxRecDepth 16384

noncomputable section
namespace Cert.Kernel2Ideal.ShortConvValue
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (c : Dev nD)

/-- The points of the first tile of a sequence: the body's test in closed form. -/
theorem opens_iff : ∀ t : Fin cfg0.N, ShortConvRun.opens (grid0.coords t) ↔ t.val % 16 < 8 :=
  (by decide +kernel : ∀ t : Fin grid0.N, ShortConvRun.opens (grid0.coords t) ↔ t.val % 16 < 8)

/-- The column block of a point. -/
theorem column : ∀ t : Fin cfg0.N, (grid0.coords t 1).val = t.val % 8 :=
  (by decide +kernel : ∀ t : Fin grid0.N, (grid0.coords t 1).val = t.val % 8)

/-- The grid has 32 points. -/
theorem points (t : Fin cfg0.N) : t.val < 32 := t.isLt.trans_eq N_0

/-- The last eight rows of what is convolved at a point: what it keeps for the next tile. -/
def kept (t : Fin cfg0.N) (a : Fin 8) (b : Fin 256) : EReal :=
  ups (iblk m c 0 t : Vec Ideal S2048x4096 .bf16) (iblk m c 2 t : Vec Ideal S256x4096 .bf16) (iblk m c 3 t : Vec Ideal S256x4096 .bf16) ⟨2040 + a, by omega⟩ b

/-- The rows before a point's block: zero at the first tile of a sequence, else those kept eight points earlier. -/
def before (t : Fin cfg0.N) (a : Fin 8) (b : Fin 256) : EReal :=
  if t.val % 16 < 8 then 0 else kept m c ⟨t.val - 8, (Nat.sub_le _ _).trans_lt t.isLt⟩ a b

/-- What a point leaves in its output block. -/
def left (t : Fin cfg0.N) : Vec Ideal S2048x256 .bf16 := fun y =>
  rows (iblk m c 0 t : Vec Ideal S2048x4096 .bf16) (iblk m c 1 t : Vec Ideal S256x4096 .bf16) (iblk m c 2 t : Vec Ideal S256x4096 .bf16) (iblk m c 3 t : Vec Ideal S256x4096 .bf16)
    (iblk m c 4 t : Vec Ideal S256x4096 .bf16) (iblk m c 5 t : Vec Ideal S3x256 .f32) (before m c t) (y 0) (y 1)

/-- The carried rows before point `n`: each slot holds what the last point of its column block kept. -/
def Carried (n : Nat) (d : Vec Ideal S8x8x256 .f32) : Prop :=
  ∀ s : Fin cfg0.N, s.val < n → n ≤ s.val + 8 → ∀ q : Fin 8, q.val = s.val % 8 → ∀ a b, d (ix3 q a b) = kept m c s a b

/-- The carried rows of the next point, from those of this one. -/
theorem carried_step (t : Fin cfg0.N) (d d' : Vec Ideal S8x8x256 .f32) (h : Carried m c t.val d)
    (hs : ∀ q : Fin 8, (grid0.coords t 1).val = q.val → ∀ a b, d' (ix3 q a b) = kept m c t a b)
    (ho : ∀ q : Fin 8, (grid0.coords t 1).val ≠ q.val → ∀ a b, d' (ix3 q a b) = d (ix3 q a b)) :
    Carried m c (t.val + 1) d' := by
  intro s h1 h2 q hq a b
  by_cases hst : s.val = t.val
  · obtain rfl : s = t := Fin.ext hst
    exact hs q ((column s).trans hq.symm) a b
  · refine (ho q (fun e => hst ?_) a b).trans (h s (by omega) (by omega) q hq a b)
    have := (column t).symm.trans (e.trans hq)
    omega

/-- The buffer that carries rows. -/
abbrev carrier : Memref sig .tc .vmem S8x8x256 .f32 := Memref.whole cc0_scratch0

/-- What the body keeps between points: the carried rows, and the generator register. -/
def between (n : Nat) : sProp 𝕄 :=
  iprop((∃ d, ⌜Carried m c n d⌝ ∗ owns (c : Thread nD τ) carrier fullShare d) ∗ (∃ r, prngReg c r))

/-- The body's own buffers, at some contents. -/
theorem own_buffers : (Pipeline.ΦA spec0 c : sProp 𝕄)
    = iprop((∃ d, owns (c : Thread nD τ) carrier fullShare d) ∗ (∃ r, prngReg c r)) := by
  unfold Pipeline.ΦA
  rw [scopedRest0_eq]
  simp only [carrier, owns_whole]
  try rfl

/-- What each point is given and leaves: the inputs' blocks stay, the output block is `left`, the rows are carried. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left m c t
  Φ t := between m c t.val
  q w := Pipeline.shareOf spec0 w
  owed _ := 0

/-- The arrays are those of the entry. -/
theorem arrays (c : Dev nD) (w : Fin cfg0.W) : (dats m 0 c).A w = V m c (Pipeline.arrRef spec0 w) := by
  dsimp only [dats]

/-- The block of input 0 stays. -/
theorem after_0 (c : Dev nD) (t : Fin cfg0.N) : (dats m 0 c).after 0 t = iblk m c 0 t := by dsimp only [dats]
/-- The block of input 1 stays. -/
theorem after_1 (c : Dev nD) (t : Fin cfg0.N) : (dats m 0 c).after 1 t = iblk m c 1 t := by dsimp only [dats]
/-- The block of input 2 stays. -/
theorem after_2 (c : Dev nD) (t : Fin cfg0.N) : (dats m 0 c).after 2 t = iblk m c 2 t := by dsimp only [dats]
/-- The block of input 3 stays. -/
theorem after_3 (c : Dev nD) (t : Fin cfg0.N) : (dats m 0 c).after 3 t = iblk m c 3 t := by dsimp only [dats]
/-- The block of input 4 stays. -/
theorem after_4 (c : Dev nD) (t : Fin cfg0.N) : (dats m 0 c).after 4 t = iblk m c 4 t := by dsimp only [dats]
/-- The block of input 5 stays. -/
theorem after_5 (c : Dev nD) (t : Fin cfg0.N) : (dats m 0 c).after 5 t = iblk m c 5 t := by dsimp only [dats]
/-- The output block is left. -/
theorem after_6 (c : Dev nD) (t : Fin cfg0.N) : (dats m 0 c).after 6 t = left m c t := by dsimp only [dats]
/-- The body finds the block of input 0. -/
theorem found_0 (c : Dev nD) (t : Fin cfg0.N) (d) : (dats m 0 c).before 0 t d = iblk m c 0 t :=
  before0_0_of m (dats m 0 c) (arrays m c 0) (after_0 m c) t d
/-- The body finds the block of input 1. -/
theorem found_1 (c : Dev nD) (t : Fin cfg0.N) (d) : (dats m 0 c).before 1 t d = iblk m c 1 t :=
  before0_1_of m (dats m 0 c) (arrays m c 1) (after_1 m c) t d
/-- The body finds the block of input 2. -/
theorem found_2 (c : Dev nD) (t : Fin cfg0.N) (d) : (dats m 0 c).before 2 t d = iblk m c 2 t :=
  before0_2_of m (dats m 0 c) (arrays m c 2) (after_2 m c) t d
/-- The body finds the block of input 3. -/
theorem found_3 (c : Dev nD) (t : Fin cfg0.N) (d) : (dats m 0 c).before 3 t d = iblk m c 3 t :=
  before0_3_of m (dats m 0 c) (arrays m c 3) (after_3 m c) t d
/-- The body finds the block of input 4. -/
theorem found_4 (c : Dev nD) (t : Fin cfg0.N) (d) : (dats m 0 c).before 4 t d = iblk m c 4 t :=
  before0_4_of m (dats m 0 c) (arrays m c 4) (after_4 m c) t d
/-- The body finds the block of input 5. -/
theorem found_5 (c : Dev nD) (t : Fin cfg0.N) (d) : (dats m 0 c).before 5 t d = iblk m c 5 t :=
  before0_5_of m (dats m 0 c) (arrays m c 5) (after_5 m c) t d

/-- What the body is called with at point `t`. -/
def given (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- What it returns. -/
def returned (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- The stores of a later tile's point cover its output block. -/
theorem later_cover (t : Fin cfg0.N) (h : ¬ShortConvRun.opens (grid0.coords t)) (s : Vec Ideal S8x8x256 .f32) (y : S2048x256.Idx) :
    ∃ p ∈ (ShortConvRun.later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.1, y ∈ p.1.set := by
  unfold ShortConvRun.later
  exact View.cover_of_tiledL _ ![512, 256] (by sl_kernel_rfl) y

/-- The output block of a later tile's point, read back. -/
theorem later_left (t : Fin cfg0.N) (h : ¬ShortConvRun.opens (grid0.coords t)) (s : Vec Ideal S8x8x256 .f32) (hs : Carried m c t.val s)
    (f : (win0_6.stage (cfg0.slots t 6)).view.ty.Contents (Elt Ideal)) :
    (win0_6.stage (cfg0.slots t 6)).view.read (Elt Ideal) ((win0_6.stage (cfg0.slots t 6)).view.writes (Elt Ideal) f (ShortConvRun.later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.1) = left m c t := by
  refine (View.read_writes_eq_canon _ f _ (later_cover m c t h s)).trans (funext fun y => ?_)
  idx_vars y
  have hN := points t
  have hr : ¬t.val % 16 < 8 := fun e => h ((opens_iff t).mpr e)
  refine (later_block c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h ⟨t.val % 8, by omega⟩ (column t) y0 y1).trans ?_
  unfold left
  refine congrArg (fun p => rows (iblk m c 0 t : Vec Ideal S2048x4096 .bf16) (iblk m c 1 t : Vec Ideal S256x4096 .bf16) (iblk m c 2 t : Vec Ideal S256x4096 .bf16) (iblk m c 3 t : Vec Ideal S256x4096 .bf16)
    (iblk m c 4 t : Vec Ideal S256x4096 .bf16) (iblk m c 5 t : Vec Ideal S3x256 .f32) p y0 y1) (funext fun a => funext fun b => ?_)
  unfold before
  rw [if_neg hr]
  exact hs ⟨t.val - 8, (Nat.sub_le _ _).trans_lt t.isLt⟩ (by show t.val - 8 < t.val; omega) (by show t.val ≤ t.val - 8 + 8; omega) _ (by show t.val % 8 = (t.val - 8) % 8; omega) a b

/-- The rows carried on from a later tile's point. -/
theorem later_carried (t : Fin cfg0.N) (h : ¬ShortConvRun.opens (grid0.coords t)) (s : Vec Ideal S8x8x256 .f32) (hs : Carried m c t.val s)
    (f : carrier.view.ty.Contents (Elt Ideal)) (hf : carrier.view.read (Elt Ideal) f = s) :
    Carried m c (t.val + 1) (carrier.view.read (Elt Ideal) (carrier.view.writes (Elt Ideal) f (ShortConvRun.later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.2)) :=
  carried_step m c t s _ hs
    (fun q hq a b => later_slot c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h q hq f a b)
    (fun q hq a b => (later_others c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h q hq f a b).trans (congrFun hf _))

/-- The stores of a first tile's point cover its output block. -/
theorem first_cover (t : Fin cfg0.N) (h : ShortConvRun.opens (grid0.coords t)) (s : Vec Ideal S8x8x256 .f32) (y : S2048x256.Idx) :
    ∃ p ∈ (ShortConvRun.first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.1, y ∈ p.1.set := by
  unfold ShortConvRun.first
  exact View.cover_of_tiledL _ ![512, 256] (by sl_kernel_rfl) y

/-- The output block of a first tile's point, read back. -/
theorem first_left (t : Fin cfg0.N) (h : ShortConvRun.opens (grid0.coords t)) (s : Vec Ideal S8x8x256 .f32) (hs : Carried m c t.val s)
    (f : (win0_6.stage (cfg0.slots t 6)).view.ty.Contents (Elt Ideal)) :
    (win0_6.stage (cfg0.slots t 6)).view.read (Elt Ideal) ((win0_6.stage (cfg0.slots t 6)).view.writes (Elt Ideal) f (ShortConvRun.first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.1) = left m c t := by
  refine (View.read_writes_eq_canon _ f _ (first_cover m c t h s)).trans (funext fun y => ?_)
  idx_vars y
  have hN := points t
  have hr : t.val % 16 < 8 := (opens_iff t).mp h
  refine (first_block c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h ⟨t.val % 8, by omega⟩ (column t) y0 y1).trans ?_
  unfold left
  refine congrArg (fun p => rows (iblk m c 0 t : Vec Ideal S2048x4096 .bf16) (iblk m c 1 t : Vec Ideal S256x4096 .bf16) (iblk m c 2 t : Vec Ideal S256x4096 .bf16) (iblk m c 3 t : Vec Ideal S256x4096 .bf16)
    (iblk m c 4 t : Vec Ideal S256x4096 .bf16) (iblk m c 5 t : Vec Ideal S3x256 .f32) p y0 y1) (funext fun a => funext fun b => ?_)
  unfold before
  rw [if_pos hr]

/-- The rows carried on from a first tile's point. -/
theorem first_carried (t : Fin cfg0.N) (h : ShortConvRun.opens (grid0.coords t)) (s : Vec Ideal S8x8x256 .f32) (hs : Carried m c t.val s)
    (f : carrier.view.ty.Contents (Elt Ideal)) (hf : carrier.view.read (Elt Ideal) f = s) :
    Carried m c (t.val + 1) (carrier.view.read (Elt Ideal) (carrier.view.writes (Elt Ideal) f (ShortConvRun.first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) s).1.2)) :=
  carried_step m c t s _ hs
    (fun q hq a b => first_slot c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h q hq f a b)
    (fun q hq a b => (first_others c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) (iblk m c 0 t) (iblk m c 1 t) (iblk m c 2 t) (iblk m c 3 t) (iblk m c 4 t) (iblk m c 5 t) s h q hq f a b).trans (congrFun hf _))

set_option maxHeartbeats 1600000 in
/-- The body at any point: given the rows carried to it, it leaves its block and the rows carried on. -/
theorem sound (t : Fin cfg0.N) :
    given m c t ⊢ wp frame (wpE (defs₀ (F := Ideal)) Variants.none c none) Set.univ (bodyAt0 t) (fun _ => returned m c t) := by
  unfold given returned bodyAt0
  simp only [found_0, found_1, found_2, found_3, found_4, found_5]
  rw [show (dats m 0 c).Φ t.succ = between m c (t.val + 1) from rfl, show (dats m 0 c).Φ t.castSucc = between m c t.val from rfl,
    show (dats m 0 c).owesAt () t.succ = (dats m 0 c).owesAt () t.castSucc from rfl,
    after_0, after_1, after_2, after_3, after_4, after_5, after_6]
  unfold between
  by_cases h : ShortConvRun.opens (grid0.coords t)
  ·
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((ShortConvRun.first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) d).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, %hfs, HS⟩⟩
    isplitl [HS Hg]
    · isplitl [HS]
      · iexists _
        isplitr
        · ipureintro
          exact first_carried m c t h d hd fs hfs
        · unfold owns
          iexists _
          isplitr
          · ipureintro; rfl
          iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    iexists _
    isplitr
    · ipureintro
      exact first_left m c t h d hd f6
    iexact H6
  ·
    iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩⟩
    iapply ((ShortConvRun.later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) carrier (Memref.isWhole_whole _) h (iblk m c 0 t) (iblk m c 1 t) (iblk m c 2 t) (iblk m c 3 t) (iblk m c 4 t) (iblk m c 5 t) d).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, ⟨%f6, H6⟩, ⟨%fs, %hfs, HS⟩⟩
    isplitl [HS Hg]
    · isplitl [HS]
      · iexists _
        isplitr
        · ipureintro
          exact later_carried m c t h d hd fs hfs
        · unfold owns
          iexists _
          isplitr
          · ipureintro; rfl
          iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns
    iexists _
    isplitr
    · ipureintro
      exact later_left m c t h d hd f6
    iexact H6

/-- The body table's row at a point is the body. -/
theorem body_row (t : Fin cfg0.N) : defs₀ (F := Ideal) .tc cfg0.body (cfg0.bodyArgs t (cfg0.slots t)) = bodyAt0 t := by
  unfold defs₀; rw [Defs.onTc_tc]

/-- What the pipeline asks of the body, at every point. -/
theorem obligation : BodyObligation (dats m 0 c) (defs₀ (F := Ideal)) Variants.none () Set.univ := fun t => by
  rw [bigSep_W0, bigSep_W0, body_row]
  exact triple_restated (sound m c t) rfl .rfl fun _ => .rfl

/-- Nothing is carried to the first point. -/
theorem enters : (Pipeline.ΦA spec0 c : sProp 𝕄) ⊢ (dats m 0 c).Φ 0 := by
  rw [own_buffers, show (dats m 0 c).Φ 0 = between m c 0 from rfl]
  unfold between
  iintro ⟨⟨%d, H⟩, Hg⟩
  isplitl [H]
  · iexists d
    isplitr
    · ipureintro
      exact fun s h => absurd h (Nat.not_lt_zero _)
    iexact H
  iexact Hg

/-- What the last point carries is given up. -/
theorem leaves : (dats m 0 c).Φ (Fin.last cfg0.N) ⊢ (Pipeline.ΦA spec0 c : sProp 𝕄) := by
  rw [own_buffers, show (dats m 0 c).Φ (Fin.last cfg0.N) = between m c cfg0.N from rfl]
  unfold between
  iintro ⟨⟨%d, -, H⟩, Hg⟩
  isplitl [H]
  · iexists d
    iexact H
  iexact Hg

set_option backward.isDefEq.respectTransparency.types false in
set_option maxHeartbeats 800000 in
/-- The run: it ends with every array at what the points wrote back, and with every semaphore counter at zero. -/
theorem run_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := arrays m) (hin := enters m) (hout := leaves m)

/-- The run leaves the arguments as they were, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) ((θ_run defs _ _).mono (fun _ h => h.1) (run_quiescent m ρ)))
    ((θ_run defs _ _).mono (fun _ h => h.2) (run_quiescent m ρ))

/-- The run with its result named; the arguments are unchanged. -/
theorem run_blocks : θ_run defs (onTc (τ := τ) (main (F := Ideal))) ⟨m, fun _ => 0, ρ⟩ fun r => ∀ c : Dev nD,
      r.2.mem ((c : Thread nD τ).loc main_v4) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).1 6, h.2.1 c⟩) (θ_run_and (run_quiescent m ρ |> (θ_run defs _ _).mono (fun _ h => h.1)) (frame m ρ))

end Cert.Kernel2Ideal.ShortConvValue
-- ==== Proof.ShortConvArray.lean ====
module

public import proofs.«01_k».proof.Proof.ShortConvData
public import proofs.«01_k».proof.Proof.ShortConv

/-! The convolution kernel's result array, entry by entry, in terms of its arguments. -/

@[expose] public section

set_option maxRecDepth 16384

noncomputable section
namespace Cert.Kernel2Ideal.ShortConvValue
open Cert.Kernel2Ideal Cert.Kernel2Ideal.Gen Idealize.ShloMosaic Idealize.ShloMosaic.TcCoe Idealize.SL.Sem
open Idealize.ShloMosaic.Pipeline (Dat)
open ShortConv

variable (m : (ℓ : Loc nD τ sig) → Buf (Elt Ideal) ℓ) (c : Dev nD)

/-- Which block each window shows at a point. -/
theorem where_at : ∀ t : Fin cfg0.N, win0_0.index t = ![t.val / 8, 0] ∧ win0_1.index t = ![t.val % 8, 0] ∧ win0_2.index t = ![8 + t.val % 8, 0]
    ∧ win0_3.index t = ![16 + t.val % 8, 0] ∧ win0_4.index t = ![24 + t.val % 8, 0] ∧ win0_5.index t = ![0, t.val % 8] ∧ win0_6.index t = ![t.val / 8, t.val % 8] :=
  (by decide +kernel : ∀ t : Fin grid0.N, _)

/-- Row `a` of the inputs' block at point `t`: a position of the sequence the tile is of. -/
theorem x_block (t : Fin cfg0.N) (a : Fin 2048) (k : Fin 4096) (q : Fin 2) (s : Fin 4096) (hq : q.val = t.val / 16) (hs : s.val = 2048 * (t.val / 8 % 2) + a.val) :
    iblk m c 0 t (ix2 a k) = m ((c : Thread nD τ).loc main_arg0) (ix3 q s k) := by
  have hN := points t
  blk_ext! [iblk, V, where_at t]

/-- Row `b` of the first weights' block at point `t`. -/
theorem wb_block (t : Fin cfg0.N) (b : Fin 256) (k : Fin 4096) (h : 256 * (t.val % 8) + b.val < 2048) :
    iblk m c 1 t (ix2 b k) = m ((c : Thread nD τ).loc main_arg1) (ix2 k ⟨256 * (t.val % 8) + b.val, by omega⟩) := by
  blk_ext! [iblk, V, where_at t]

/-- Row `b` of the second weights' block at point `t`. -/
theorem wc_block (t : Fin cfg0.N) (b : Fin 256) (k : Fin 4096) (h : 256 * (t.val % 8) + b.val < 2048) :
    iblk m c 2 t (ix2 b k) = m ((c : Thread nD τ).loc main_arg1) (ix2 k ⟨2048 + (256 * (t.val % 8) + b.val), by omega⟩) := by
  blk_ext! [iblk, V, where_at t]

/-- Row `b` of the third weights' block at point `t`. -/
theorem wh_block (t : Fin cfg0.N) (b : Fin 256) (k : Fin 4096) (h : 256 * (t.val % 8) + b.val < 2048) :
    iblk m c 3 t (ix2 b k) = m ((c : Thread nD τ).loc main_arg1) (ix2 k ⟨4096 + (256 * (t.val % 8) + b.val), by omega⟩) := by
  blk_ext! [iblk, V, where_at t]

/-- Row `b` of the fourth weights' block at point `t`. -/
theorem wz_block (t : Fin cfg0.N) (b : Fin 256) (k : Fin 4096) (h : 256 * (t.val % 8) + b.val < 2048) :
    iblk m c 4 t (ix2 b k) = m ((c : Thread nD τ).loc main_arg1) (ix2 k ⟨6144 + (256 * (t.val % 8) + b.val), by omega⟩) := by
  blk_ext! [iblk, V, where_at t]

/-- A tap of the taps' block at point `t`. -/
theorem taps_block (t : Fin cfg0.N) (j : Fin 3) (b : Fin 256) (h : 256 * (t.val % 8) + b.val < 2048) :
    iblk m c 5 t (ix2 j b) = m ((c : Thread nD τ).loc main_arg2) (ix2 j ⟨256 * (t.val % 8) + b.val, h⟩) := by
  blk_ext! [iblk, V, where_at t]

/-- What is convolved at a point, in terms of the arguments. -/
theorem ups_at (t : Fin cfg0.N) (a : Fin 2048) (b : Fin 256) (q : Fin 2) (s : Fin 4096) (e : Fin 2048) (hq : q.val = t.val / 16) (hs : s.val = 2048 * (t.val / 8 % 2) + a.val)
    (he : e.val = 256 * (t.val % 8) + b.val) :
    ups (iblk m c 0 t : Vec Ideal S2048x4096 .bf16) (iblk m c 2 t : Vec Ideal S256x4096 .bf16) (iblk m c 3 t : Vec Ideal S256x4096 .bf16) a b
      = up (m ((c : Thread nD τ).loc main_arg0)) (m ((c : Thread nD τ).loc main_arg1)) q s e := by
  have h : 256 * (t.val % 8) + b.val < 2048 := by omega
  obtain rfl : e = ⟨256 * (t.val % 8) + b.val, h⟩ := Fin.ext he
  unfold ups up prod proj
  exact congrArg₂ (· * ·) (Finset.sum_congr rfl fun k _ => congrArg₂ (· * ·) (x_block m c t a k q s hq hs) (wc_block m c t b k h))
    (Finset.sum_congr rfl fun k _ => congrArg₂ (· * ·) (x_block m c t a k q s hq hs) (wh_block m c t b k h))

/-- The rows some positions earlier: of the point's own block, or carried to it from the tile before. -/
theorem back_at (k : Nat) (hk : k ≤ 8) (t : Fin cfg0.N) (a : Fin 2048) (b : Fin 256) (q : Fin 2) (s : Fin 4096) (e : Fin 2048) (hq : q.val = t.val / 16) (hs : s.val = 2048 * (t.val / 8 % 2) + a.val)
    (he : e.val = 256 * (t.val % 8) + b.val) :
    back k hk (ups (iblk m c 0 t : Vec Ideal S2048x4096 .bf16) (iblk m c 2 t : Vec Ideal S256x4096 .bf16) (iblk m c 3 t : Vec Ideal S256x4096 .bf16)) (before m c t) a b
      = upBack (m ((c : Thread nD τ).loc main_arg0)) (m ((c : Thread nD τ).loc main_arg1)) k q s e := by
  have hN := points t
  unfold back upBack
  by_cases ha : a.val < k
  · rw [dif_pos ha]
    unfold before
    by_cases ht : t.val % 16 < 8
    · rw [if_pos ht, if_pos (by omega)]
    · rw [if_neg ht, if_neg (by omega)]
      exact ups_at m c _ _ b q _ e (by show q.val = (t.val - 8) / 16; omega) (by show s.val - k = 2048 * ((t.val - 8) / 8 % 2) + (2040 + (8 - k + a.val)); omega)
        (by show e.val = 256 * ((t.val - 8) % 8) + b.val; omega)
  · rw [dif_neg ha, if_neg (by omega)]
    exact ups_at m c t _ b q _ e hq (by show s.val - k = 2048 * (t.val / 8 % 2) + (a.val - k); omega) he

/-- A point's block is the gated convolution's. -/
theorem left_at (t : Fin cfg0.N) (a : Fin 2048) (b : Fin 256) (r : Fin 8192) (e : Fin 2048) (hr : r.val = 2048 * (t.val / 8) + a.val) (he : e.val = 256 * (t.val % 8) + b.val) :
    left m c t (ix2 a b) = gated (m ((c : Thread nD τ).loc main_arg0)) (m ((c : Thread nD τ).loc main_arg1)) (m ((c : Thread nD τ).loc main_arg2)) r e := by
  have hN := points t
  have hq : r.val / 4096 = t.val / 16 := by omega
  have hs : r.val % 4096 = 2048 * (t.val / 8 % 2) + a.val := by omega
  have h : 256 * (t.val % 8) + b.val < 2048 := by omega
  obtain rfl : e = ⟨256 * (t.val % 8) + b.val, h⟩ := Fin.ext he
  unfold left gated rows conv
  refine congrArg₂ (· * ·) (congrArg₂ (· * ·) (Finset.sum_congr rfl fun k _ => congrArg₂ (· * ·) (x_block m c t a k _ _ hq hs) (wb_block m c t b k h)) ?_)
    (congrArg Gating.silu (Finset.sum_congr rfl fun k _ => congrArg₂ (· * ·) (x_block m c t a k _ _ hq hs) (wz_block m c t b k h)))
  exact congrArg₂ (· + ·) (congrArg₂ (· + ·) (congrArg₂ (· * ·) (taps_block m c t 0 b h) (back_at m c 2 _ t a b _ _ _ hq hs rfl))
    (congrArg₂ (· * ·) (taps_block m c t 1 b h) (back_at m c 1 _ t a b _ _ _ hq hs rfl)))
    (congrArg₂ (· * ·) (taps_block m c t 2 b h) (ups_at m c t a b _ _ _ hq hs rfl))

/-- The gated convolution. -/
theorem gated_array : (dats m 0 c).arrAt 6 cfg0.N = (fun i : S8192x2048.Idx =>
    gated (m ((c : Thread nD τ).loc main_arg0)) (m ((c : Thread nD τ).loc main_arg1)) (m ((c : Thread nD τ).loc main_arg2)) (i 0) (i 1)) := by
  refine (dats m 0 c).arrAt_eq_of_covers 6 _ (by decide +kernel) fun t _ y => ?_
  blk_simp
  rw [after_6]
  idx_vars y
  have hr : 2048 * (t.val / 8) + y0.val < 8192 := by have := points t; omega
  have he : 256 * (t.val % 8) + y1.val < 2048 := by omega
  have hi : ((View.whole main_v4).slice (win0_6.rect t)).emb (ix2 y0 y1) = ix2 (⟨2048 * (t.val / 8) + y0.val, hr⟩ : Fin 8192) (⟨256 * (t.val % 8) + y1.val, he⟩ : Fin 2048) := by
    blk_ext [where_at t]
  refine (left_at m c t y0 y1 ⟨_, hr⟩ ⟨_, he⟩ rfl rfl).trans ?_
  exact (congrArg (fun i : S8192x2048.Idx => gated (m ((c : Thread nD τ).loc main_arg0)) (m ((c : Thread nD τ).loc main_arg1)) (m ((c : Thread nD τ).loc main_arg2)) (i 0) (i 1)) hi).symm

/-- The run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v4) = (fun i : S8192x2048.Idx => gated (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (gated_array m c), (h c).2⟩) (run_blocks m ρ)

end Cert.Kernel2Ideal.ShortConvValue
-- ==== Proof.ShortConvReference.lean ====
module

public import proofs.«01_k».proof.Proof.ShortConv
public import proofs.«01_k».proof.Proof.Gen.Reference2Ideal.Read
public import proofs.«01_k».proof.Proof.Gen.Reference2Ideal.Run
public import Idealize.ShloMosaic.Lib.Pipeline.ValueKit
public import Idealize.ShloMosaic.Lib.Pointwise

/-! The convolution reference's result, entry by entry, is the same function of the arguments. -/

@[expose] public section

set_option maxRecDepth 16384

noncomputable section
namespace Cert.Reference2Ideal.ShortConvValue
open Cert.Reference2Ideal Cert.Reference2Ideal.Gen Cert.Reference2Ideal.Read Idealize.ShloMosaic Idealize.ShloMosaic.TcCoe Idealize.SL.Sem
open Gating ShortConv

variable (x : FVec Ideal S2x4096x4096 .bf16) (w : FVec Ideal S4096x11840 .f32) (taps : FVec Ideal S3x2048 .f32)

/-- The integer zero, as a real. -/
theorem sitofp_zero : (FloatOps.sitofp FTy.f32 0#32 : Ideal FTy.f32) = (0 : EReal) := by
  show (((0#32).toInt : ℝ) : EReal) = 0
  simp

/-- The projection of a token to column `e`. -/
theorem proj_at (q : Fin 2) (s : Fin 4096) (e : Fin 11840) : val_main_v1 (F := Ideal) x w (ix3 q s e) = proj x w q s e := by
  pointwise [val_main_v1, val_main_v0]
  rfl

/-- What is convolved. -/
theorem up_at (q : Fin 2) (s : Fin 4096) (b : Fin 2048) : val_main_v6 (F := Ideal) x w (ix3 q s b) = up x w q s b := by
  pointwise [val_main_v6, val_main_v3, val_main_v4]
  simp only [proj_at]
  rfl

/-- The padded array: two zero rows, then the rows to convolve. -/
theorem padded_at (q : Fin 2) (s : Fin 4098) (b : Fin 2048) : val_main_v7 (F := Ideal) x w (ix3 q s b)
    = if h : s.val < 2 then 0 else up x w q ⟨s - 2, by omega⟩ b := by
  pointwise [val_main_v7, val_main_call0_v0, val_main_c]
  by_cases h : s.val < 2
  · rw [dif_neg (by omega), dif_pos h]
    exact sitofp_zero
  · rw [dif_pos (by omega), dif_neg h]
    exact up_at x w q _ b

/-- The row two before, of the padded array. -/
theorem back_two (q : Fin 2) (s : Fin 4096) (b : Fin 2048) : val_main_v10 (F := Ideal) x w (ix3 q s b) = upBack x w 2 q s b := by
  pointwise [val_main_v10]
  refine (padded_at x w q _ b).trans ?_
  rfl

/-- The row before, of the padded array. -/
theorem back_one (q : Fin 2) (s : Fin 4096) (b : Fin 2048) : val_main_v18 (F := Ideal) x w (ix3 q s b) = upBack x w 1 q s b := by
  pointwise [val_main_v18]
  refine (padded_at x w q _ b).trans ?_
  unfold upBack
  by_cases h : s.val < 1
  · rw [dif_pos (show (1 + s.val) < 2 by omega), if_pos h]
  · rw [dif_neg (show ¬ (1 + s.val) < 2 by omega), if_neg h]
    exact congrArg (fun s => up x w q s b) (Fin.ext (by show 1 + s.val - 2 = s.val - 1; omega))

/-- The row itself, of the padded array. -/
theorem back_none (q : Fin 2) (s : Fin 4096) (b : Fin 2048) : val_main_v25 (F := Ideal) x w (ix3 q s b) = up x w q s b := by
  pointwise [val_main_v25]
  refine (padded_at x w q _ b).trans ?_
  rw [dif_neg (show ¬ (2 + s.val) < 2 by omega)]
  exact congrArg (fun s => up x w q s b) (Fin.ext (by show 2 + s.val - 2 = s.val; omega))

/-- The convolution. -/
theorem conv_at (q : Fin 2) (s : Fin 4096) (b : Fin 2048) : val_main_v29 (F := Ideal) x w taps (ix3 q s b) = conv x w taps q s b := by
  pointwise [val_main_v29, val_main_v28, val_main_v27, val_main_v26, val_main_v24, val_main_v23, val_main_v22, val_main_v21, val_main_v20, val_main_v19, val_main_v17, val_main_v16,
    val_main_v15, val_main_v14, val_main_v13, val_main_v12, val_main_v11, val_main_v9, val_main_v8, val_main_cst]
  simp only [back_two, back_one, back_none, zero_add]
  rfl

/-- An entry of the result. -/
theorem gated_at (r : Fin 8192) (b : Fin 2048) : val_main_v34 (F := Ideal) x w taps (ix2 r b) = gated x w taps r b := by
  pointwise [val_main_v34, val_main_v33, val_main_v32, val_main_v31, val_main_v30, val_main_call1_v5, val_main_call1_v4, val_main_call1_v3, val_main_call1_v2, val_main_call1_v1, val_main_call1_v0, val_main_call1_cst, val_main_call1_cst_0, val_main_v2, val_main_v5]
  simp only [proj_at, conv_at]
  rfl

/-- The array of `gated_at`. -/
theorem gated_array : val_main_v34 (F := Ideal) x w taps = (fun i : S8192x2048.Idx => gated x w taps (i 0) (i 1)) := by
  funext i
  idx_vars i
  exact gated_at x w taps i0 i1

variable (m : (ℓ : Loc nD τ sig) → Buf (Elt Ideal) ℓ)

/-- The reference's run with its result named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v34) = (fun i : S8192x2048.Idx => gated (m ((c : Thread nD τ).loc main_arg0)) (m ((c : Thread nD τ).loc main_arg1)) (m ((c : Thread nD τ).loc main_arg2)) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1.trans (val_main_v34_eq _ _)).trans (gated_array _ _ _), (h c).2⟩) (Value.run m ρ)

end Cert.Reference2Ideal.ShortConvValue
-- ==== Proof.HeadProj.lean ====
module

public import proofs.«01_k».proof.Proof.RmsNorm

/-! The projections of the two latents to the sixteen heads, entry by entry.

Tokens are counted through both sequences: token `r` is position `r % 4096` of sequence `r / 4096`. -/

@[expose] public section

noncomputable section
namespace HeadProj
open Idealize.ShloMosaic RowNorm

/-- The factor the queries are scaled by. -/
def qScale : EReal := Ideal.ofBits FTy.f32 1037384597#32

/-- Column `e` of a token's queries, from the sixteen heads' unrotated columns `n` and columns to rotate `p`: a head takes 256 columns, the
first 128 of them unrotated, then 64 rotated ones, then 64 of zero. -/
def qEntry (n : Fin 2048 → EReal) (p : Fin 1024 → EReal) (c s : Fin 32 → EReal) (e : Fin 4096) : EReal :=
  if e.val % 256 < 128 then n ⟨(128 * (e.val / 256) + e.val % 256) % 2048, Nat.mod_lt _ (by omega)⟩ * qScale
  else rotate (fun l : Fin 64 => p ⟨64 * (e.val / 256) + l.val, by omega⟩) c s ⟨(e.val % 256 - 128) % 128, Nat.mod_lt _ (by omega)⟩ * qScale

/-- Row `a` of a tile's values, laid out by column: a head takes 144 rows, its 128 columns and then sixteen rows of one. -/
def vEntry (v : Fin 4096 → EReal) (a : Fin 2304) : EReal :=
  if a.val % 144 < 128 then v ⟨(256 * (a.val / 144) + 128 + a.val % 144) % 4096, Nat.mod_lt _ (by omega)⟩ else 1

/-- Column `e` of a token's keys: a head's first 128 of its 256 columns. -/
def kEntry (v : Fin 4096 → EReal) (e : Fin 2048) : EReal :=
  v ⟨256 * (e.val / 128) + e.val % 128, by omega⟩

/-- The query latents. -/
abbrev QLatents := (⟨3, ![2, 4096, 1024]⟩ : Shape).Idx → EReal

/-- The key/value latents. -/
abbrev KvLatents := (⟨3, ![2, 4096, 512]⟩ : Shape).Idx → EReal

/-- The query latents' weights. -/
abbrev QWeights := (⟨2, ![1024, 3072]⟩ : Shape).Idx → EReal

/-- The key/value latents' weights. -/
abbrev KvWeights := (⟨2, ![512, 4096]⟩ : Shape).Idx → EReal

/-- A table of cosines or sines by position. -/
abbrev Table := (⟨2, ![4096, 32]⟩ : Shape).Idx → EReal

/-- Column `e` of the projected query latent of token `r`. -/
def qUp (x : QLatents) (w : QWeights) (r : Fin 8192) (e : Fin 3072) : EReal :=
  ∑ k : Fin 1024, x (ix3 ⟨r.val / 4096, by omega⟩ ⟨r.val % 4096, by omega⟩ k) * w (ix2 k e)

/-- Column `e` of the projected key/value latent of token `r`. -/
def kvUp (x : KvLatents) (w : KvWeights) (r : Fin 8192) (e : Fin 4096) : EReal :=
  ∑ k : Fin 512, x (ix3 ⟨r.val / 4096, by omega⟩ ⟨r.val % 4096, by omega⟩ k) * w (ix2 k e)

/-- Column `e` of token `r`'s queries. A head takes 192 columns of the projected latent: 128 unrotated, 64 rotated. -/
def qHead (x : QLatents) (w : QWeights) (c s : Table) (r : Fin 8192) (e : Fin 4096) : EReal :=
  qEntry (fun e => qUp x w r ⟨192 * (e.val / 128) + e.val % 128, by omega⟩) (fun e => qUp x w r ⟨192 * (e.val / 64) + 128 + e.val % 64, by omega⟩)
    (fun l => c (ix2 ⟨r.val % 4096, by omega⟩ l)) (fun l => s (ix2 ⟨r.val % 4096, by omega⟩ l)) e

/-- Column `e` of token `r`'s keys. -/
def kHead (x : KvLatents) (w : KvWeights) (r : Fin 8192) (e : Fin 2048) : EReal := kEntry (kvUp x w r) e

/-- Row `a` of the values at place `p` of tile `t`. -/
def vHead (x : KvLatents) (w : KvWeights) (t : Fin 16) (a : Fin 2304) (p : Fin 512) : EReal :=
  vEntry (kvUp x w ⟨512 * t.val + p.val, by omega⟩) a

end HeadProj
-- ==== Proof.HeadPieces.lean ====
module

public import proofs.«01_k».proof.Proof.Gen.Kernel5Ideal.Frame
public import proofs.«01_k».proof.Proof.HeadProj

/-! What one grid point of the head projections leaves in its three output blocks, entry by entry.

The queries' block is stored in 32 pieces of 128 columns, two for each head; the keys' block in sixteen, one for each head; the values' block in
32 pieces of rows, a head's 128 columns turned into rows and then its sixteen rows of one. -/

@[expose] public section

set_option maxRecDepth 16384

noncomputable section
namespace Cert.Kernel5Ideal.Heads
open Cert.Kernel5Ideal Cert.Kernel5Ideal.Gen Idealize.ShloMosaic Idealize.ShloMosaic.TcCoe Idealize.SL.Sem
open Idealize.ShloMosaic.Pipeline (Dat)
open RowNorm HeadProj

/-! ## The pieces -/

/-- The kinds of number in a block. -/
abbrev Cols := FVec Ideal S512x128 .f32

/-- The factor, in every entry of a piece. -/
abbrev scales : Cols := broadcast S512x128 (Scalar.ofBits (F := Ideal) .f32 0x3DD53B95#32)

/-- Zero, in every entry of a piece. -/
abbrev zeros : Cols := broadcast S512x128 (Scalar.ofBits (F := Ideal) .f32 0x00000000#32)

/-- The columns' numbers below a bound. -/
abbrev below (n : BitVec 32) : IVec S512x128 1 := cmpi .slt (iota .tc S512x128 32 [1] iota_S512x128_d1_w32) (broadcast S512x128 n)

/-- A head's unrotated query columns. -/
def nopePiece (v : FVec Ideal S512x2048 .f32) (o : ℕ) (sl : S512x2048.Slices ![0, o] S512x128) : FVec Ideal S512x128 .bf16 :=
  truncf .bf16 (mulf (extractStridedSlice S512x128 ![0, o] v sl) scales) bitsLt_bf16_f32

/-- A head's rotated query columns, from the two heads' columns it starts. -/
def ropePiece (x c s : Cols) : FVec Ideal S512x128 .bf16 :=
  truncf .bf16 (mulf (select (below 64#32) (addf (mulf x c) (mulf (select (below 32#32)
    (subf zeros (dynamicRotate 1 96#32 none x rotates_S512x128_d1)) (dynamicRotate 1 32#32 none x rotates_S512x128_d1)) s)) zeros) scales) bitsLt_bf16_f32

/-- An even head's rotated query columns: it is the first of its pair. -/
def evenPiece (v : FVec Ideal S512x1024 .f32) (c s : Cols) (o : ℕ) (sl : S512x1024.Slices ![0, o] S512x128) : FVec Ideal S512x128 .bf16 :=
  ropePiece (extractStridedSlice S512x128 ![0, o] v sl) c s

/-- An odd head's rotated query columns: the pair is turned by 64 columns first. -/
def oddPiece (v : FVec Ideal S512x1024 .f32) (c s : Cols) (o : ℕ) (sl : S512x1024.Slices ![0, o] S512x128) : FVec Ideal S512x128 .bf16 :=
  ropePiece (dynamicRotate 1 64#32 none (extractStridedSlice S512x128 ![0, o] v sl) rotates_S512x128_d1) c s

/-- A head's key columns. -/
def keyPiece (v : FVec Ideal S512x4096 .f32) (o : ℕ) (sl : S512x4096.Slices ![0, o] S512x128) : FVec Ideal S512x128 .bf16 :=
  truncf .bf16 (extractStridedSlice S512x128 ![0, o] v sl) bitsLt_bf16_f32

/-- A head's value columns, as rows. -/
def valuePiece (v : FVec Ideal S512x4096 .f32) (o : ℕ) (sl : S512x4096.Slices ![0, o] S512x128) : FVec Ideal S1x128x512 .bf16 :=
  shapeCast S1x128x512 (truncf .bf16 (transpose S128x512 [1, 0] (extractStridedSlice S512x128 ![0, o] v sl) transposes_S512x128_p1_0_S128x512) bitsLt_bf16_f32)
    shapeCasts_S128x512_S1x128x512

/-! ## Their entries -/

/-- Comparing a column number with a bound, as 32-bit words, chooses as comparing the numbers. -/
theorem select_lt (b : Fin 128) (n : ℕ) (hn : n < 128) (u v : EReal) :
    Scalar.select (IntOp.cmpi CmpIPredicate.slt (BitVec.ofNat 32 b) (BitVec.ofNat 32 n)) u v
      = if b.val < n then u else v := by
  word_cmp

/-- Entry of a head's unrotated query columns. -/
theorem nope_entry (v : FVec Ideal S512x2048 .f32) (o : ℕ) (sl : S512x2048.Slices ![0, o] S512x128) (a : Fin 512) (b : Fin 128) (h : o + b.val < 2048) :
    nopePiece v o sl (ix2 a b) = v (ix2 a ⟨o + b.val, h⟩) * qScale := by
  pointwise [nopePiece]
  rfl

/-- Entry of the rotated columns, when the cosines and sines repeat their 32 columns. -/
theorem rope_entry (x c s : Cols) (a : Fin 512) (b : Fin 128) (c' s' : Fin 32 → EReal)
    (hc : ∀ e : Fin 64, c (ix2 a ⟨e, by omega⟩) = c' ⟨e % 32, by omega⟩)
    (hs : ∀ e : Fin 64, s (ix2 a ⟨e, by omega⟩) = s' ⟨e % 32, by omega⟩) :
    ropePiece x c s (ix2 a b) = rotate (fun e : Fin 64 => x (ix2 a ⟨e, by omega⟩)) c' s' b * qScale := by
  pointwise [ropePiece]
  refine (select_lt b 64 (by omega) _ _).trans ?_
  unfold rotate
  by_cases h64 : b.val < 64
  · have hb : c (ix2 a b) = c' ⟨b % 32, by omega⟩ := hc ⟨b, h64⟩
    have hb' : s (ix2 a b) = s' ⟨b % 32, by omega⟩ := hs ⟨b, h64⟩
    rw [if_pos h64, hb, hb']
    refine congrArg₂ (· * ·) ?_ rfl
    refine (congrArg₂ (· + ·) rfl (congrArg₂ (· * ·) (select_lt b 32 (by omega) _ _) rfl)).trans ?_
    by_cases h32 : b.val < 32
    · have e1 : (⟨b % 32, by omega⟩ : Fin 32) = ⟨b, h32⟩ := Fin.ext (Nat.mod_eq_of_lt h32)
      have e2 : (b.val + 128 - 96) % 128 = 32 + b.val := by omega
      rw [if_pos h32, dif_pos h32, e1, zero_sub, sub_eq_add_neg, ← EReal.neg_mul]
      simp only [e2]
    · have e1 : (⟨b % 32, by omega⟩ : Fin 32) = ⟨b - 32, by omega⟩ := Fin.ext (show b.val % 32 = b.val - 32 by omega)
      have e2 : (b.val + 128 - 32) % 128 = b.val - 32 := by omega
      rw [if_neg h32, dif_neg h32, dif_pos h64, e1]
      simp only [e2]
  · rw [if_neg h64, dif_neg (by omega), dif_neg h64, zero_mul]

section Pairs
variable (v : FVec Ideal S512x1024 .f32) (c s : Cols) (o : ℕ) (sl : S512x1024.Slices ![0, o] S512x128) (a : Fin 512) (b : Fin 128) (c' s' : Fin 32 → EReal)
  (hc : ∀ e : Fin 64, c (ix2 a ⟨e, by omega⟩) = c' ⟨e % 32, by omega⟩)
  (hs : ∀ e : Fin 64, s (ix2 a ⟨e, by omega⟩) = s' ⟨e % 32, by omega⟩)

include hc hs in
/-- Entry of an even head's rotated query columns. -/
theorem even_entry (h : o + 128 ≤ 1024) :
    evenPiece v c s o sl (ix2 a b) = rotate (fun e : Fin 64 => v (ix2 a ⟨o + e.val, by omega⟩)) c' s' b * qScale := by
  refine (rope_entry _ c s a b c' s' hc hs).trans ?_
  refine congrArg (fun l => rotate l c' s' b * qScale) (funext fun e => ?_)
  pointwise

include hc hs in
/-- Entry of an odd head's rotated query columns. -/
theorem odd_entry (h : o + 128 ≤ 1024) :
    oddPiece v c s o sl (ix2 a b) = rotate (fun e : Fin 64 => v (ix2 a ⟨o + 64 + e.val, by omega⟩)) c' s' b * qScale := by
  refine (rope_entry _ c s a b c' s' hc hs).trans ?_
  refine congrArg (fun l => rotate l c' s' b * qScale) (funext fun e => ?_)
  pointwise
  refine congrArg (fun k => v (ix2 a k)) (Fin.ext ?_)
  show o + (e.val + 128 - 64) % 128 = o + 64 + e.val
  omega
end Pairs

/-- Entry of a head's key columns. -/
theorem key_entry (v : FVec Ideal S512x4096 .f32) (o : ℕ) (sl : S512x4096.Slices ![0, o] S512x128) (a : Fin 512) (b : Fin 128) (h : o + b.val < 4096) :
    keyPiece v o sl (ix2 a b) = v (ix2 a ⟨o + b.val, h⟩) := by
  pointwise [keyPiece]

/-- Entry of a head's value rows. -/
theorem value_entry (v : FVec Ideal S512x4096 .f32) (o : ℕ) (sl : S512x4096.Slices ![0, o] S512x128) (a : Fin 128) (b : Fin 512) (h : o + a.val < 4096) :
    valuePiece v o sl (ix3 0 a b) = v (ix2 b ⟨o + a.val, h⟩) := by
  pointwise [valuePiece]

/-! ## The products -/

section Block
variable (x0 : Vec Ideal S512x1024 .bf16) (x1 : Vec Ideal S512x512 .bf16) (x2 : Vec Ideal S1024x2048 .bf16) (x3 : Vec Ideal S1024x1024 .bf16)
  (x4 : Vec Ideal S512x4096 .bf16) (x5 x6 : Vec Ideal S512x128 .f32)

/-- Row `a` of the unrotated columns. -/
def nRow (a : Fin 512) (e : Fin 2048) : EReal := ∑ k : Fin 1024, x0 (ix2 a k) * x2 (ix2 k e)

/-- Row `a` of the columns to rotate. -/
def pRow (a : Fin 512) (e : Fin 1024) : EReal := ∑ k : Fin 1024, x0 (ix2 a k) * x3 (ix2 k e)

/-- Row `a` of the keys' and values' columns. -/
def kvRow (a : Fin 512) (e : Fin 4096) : EReal := ∑ k : Fin 512, x1 (ix2 a k) * x4 (ix2 k e)

/-- Entry of the unrotated columns' product. -/
theorem n_entry (a : Fin 512) (e : Fin 2048) : k0_pay6 (F := Ideal) x0 x2 (ix2 a e) = nRow x0 x2 a e := by
  pointwise [k0_pay6, k0_pay5]
  rfl

/-- Entry of the product to rotate. -/
theorem p_entry (a : Fin 512) (e : Fin 1024) : k0_pay7 (F := Ideal) x0 x3 (ix2 a e) = pRow x0 x3 a e := by
  pointwise [k0_pay7, k0_pay5]
  rfl

/-- Entry of the keys' and values' product. -/
theorem kv_entry (a : Fin 512) (e : Fin 4096) : k0_pay8 (F := Ideal) x1 x4 (ix2 a e) = kvRow x1 x4 a e := by
  pointwise [k0_pay8]
  rfl

/-! ## A piece in its block -/

section Queries
variable (c' s' : Fin 32 → EReal) (o h : ℕ) (a : Fin 512) (b : Fin 128) (e : Fin 4096)

/-- Head `h`'s unrotated columns are columns `256 h` to `256 h + 128` of the queries. -/
theorem nope_at (sl : S512x2048.Slices ![0, o] S512x128) (ho : o = 128 * h) (hh : h < 16) (he : e.val = 256 * h + b.val) :
    nopePiece (k0_pay6 x0 x2) o sl (ix2 a b) = qEntry (nRow x0 x2 a) (pRow x0 x3 a) c' s' e := by
  refine (nope_entry _ o sl a b (by omega)).trans ?_
  unfold qEntry
  rw [if_pos (by omega), n_entry]
  exact congrArg (fun k => nRow x0 x2 a k * qScale) (Fin.ext (by show o + b.val = (128 * (e.val / 256) + e.val % 256) % 2048; omega))

variable (hc : ∀ e : Fin 64, x5 (ix2 a ⟨e, by omega⟩) = c' ⟨e % 32, by omega⟩)
  (hs : ∀ e : Fin 64, x6 (ix2 a ⟨e, by omega⟩) = s' ⟨e % 32, by omega⟩)

/-- The cosines are loaded whole. -/
theorem cos_whole : k0_pay9 (F := Ideal) x5 = x5 := by
  funext j; idx_vars j; pointwise [k0_pay9]

/-- The sines are loaded whole. -/
theorem sin_whole : k0_pay10 (F := Ideal) x6 = x6 := by
  funext j; idx_vars j; pointwise [k0_pay10]

include hc hs in
/-- An even head `h`'s rotated columns are columns `256 h + 128` to `256 h + 256` of the queries. -/
theorem even_at (sl : S512x1024.Slices ![0, o] S512x128) (ho : o = 64 * h) (hh : h < 15) (he : e.val = 256 * h + 128 + b.val) :
    evenPiece (k0_pay7 x0 x3) (k0_pay9 x5) (k0_pay10 x6) o sl (ix2 a b) = qEntry (nRow x0 x2 a) (pRow x0 x3 a) c' s' e := by
  rw [cos_whole, sin_whole]
  refine (even_entry _ x5 x6 o sl a b c' s' hc hs (by omega)).trans ?_
  unfold qEntry
  rw [if_neg (by omega)]
  refine congrArg₂ (fun l k => rotate l c' s' k * qScale) (funext fun l => ?_) (Fin.ext (by show b.val = (e.val % 256 - 128) % 128; omega))
  exact (p_entry x0 x3 a _).trans (congrArg (pRow x0 x3 a) (Fin.ext (by show o + l.val = 64 * (e.val / 256) + l.val; omega)))

include hc hs in
/-- An odd head `h`'s rotated columns are columns `256 h + 128` to `256 h + 256` of the queries. -/
theorem odd_at (sl : S512x1024.Slices ![0, o] S512x128) (ho : o + 64 = 64 * h) (hh : h < 16) (he : e.val = 256 * h + 128 + b.val) :
    oddPiece (k0_pay7 x0 x3) (k0_pay9 x5) (k0_pay10 x6) o sl (ix2 a b) = qEntry (nRow x0 x2 a) (pRow x0 x3 a) c' s' e := by
  rw [cos_whole, sin_whole]
  refine (odd_entry _ x5 x6 o sl a b c' s' hc hs (by omega)).trans ?_
  unfold qEntry
  rw [if_neg (by omega)]
  refine congrArg₂ (fun l k => rotate l c' s' k * qScale) (funext fun l => ?_) (Fin.ext (by show b.val = (e.val % 256 - 128) % 128; omega))
  exact (p_entry x0 x3 a _).trans (congrArg (pRow x0 x3 a) (Fin.ext (by show o + 64 + l.val = 64 * (e.val / 256) + l.val; omega)))
end Queries

/-- Head `h`'s keys are columns `128 h` to `128 h + 128`. -/
theorem key_at (o h : ℕ) (a : Fin 512) (b : Fin 128) (e : Fin 2048) (sl : S512x4096.Slices ![0, o] S512x128) (ho : o = 256 * h) (hh : h < 16)
    (he : e.val = 128 * h + b.val) :
    keyPiece (k0_pay8 x1 x4) o sl (ix2 a b) = kEntry (kvRow x1 x4 a) e := by
  refine (key_entry _ o sl a b (by omega)).trans ((kv_entry x1 x4 a _).trans ?_)
  exact congrArg (kvRow x1 x4 a) (Fin.ext (by show o + b.val = 256 * (e.val / 128) + e.val % 128; omega))

/-- Head `h`'s values are rows `144 h` to `144 h + 128`. -/
theorem value_at (o h : ℕ) (a : Fin 128) (b : Fin 512) (e : Fin 2304) (sl : S512x4096.Slices ![0, o] S512x128) (ho : o = 256 * h + 128) (hh : h < 16)
    (he : e.val = 144 * h + a.val) :
    valuePiece (k0_pay8 x1 x4) o sl (ix3 0 a b) = vEntry (kvRow x1 x4 b) e := by
  refine (value_entry _ o sl a b (by omega)).trans ((kv_entry x1 x4 b _).trans ?_)
  unfold vEntry
  rw [if_pos (by omega)]
  exact congrArg (kvRow x1 x4 b) (Fin.ext (by show o + a.val = (256 * (e.val / 144) + 128 + e.val % 144) % 4096; omega))

/-- Head `h`'s rows of one. -/
theorem ones_at (h : ℕ) (a : Fin 16) (b : Fin 512) (e : Fin 2304) (hh : h < 16) (he : e.val = 144 * h + 128 + a.val) :
    (shapeCast S1x16x512 (broadcast S16x512 (Scalar.ofBits (F := Ideal) .bf16 0x3F80#16) : FVec Ideal S16x512 .bf16) shapeCasts_S16x512_S1x16x512 : FVec Ideal S1x16x512 .bf16) (ix3 0 a b)
      = vEntry (kvRow x1 x4 b) e := by
  unfold vEntry
  rw [if_neg (by omega)]
  pointwise
end Block

end Cert.Kernel5Ideal.Heads
-- ==== Proof.HeadBlocks.lean ====
module

public import proofs.«01_k».proof.Proof.HeadPieces

/-! The queries' and the keys' blocks a grid point of the head projections leaves, from its input blocks. -/

@[expose] public section

set_option maxRecDepth 16384

noncomputable section
namespace Cert.Kernel5Ideal.Heads
open Cert.Kernel5Ideal Cert.Kernel5Ideal.Gen Idealize.ShloMosaic Idealize.ShloMosaic.TcCoe Idealize.SL.Sem
open Idealize.ShloMosaic.Pipeline (Dat)
open RowNorm HeadProj

variable (m : (ℓ : Loc nD τ sig) → Buf (Elt Ideal) ℓ) (c : Dev nD)

set_option maxHeartbeats 3200000 in
/-- The queries' block at point `t`. -/
theorem q_block (t : Fin cfg0.N) (a : Fin 512) (b : Fin 4096) (c' s' : Fin 32 → EReal)
    (hc : ∀ e : Fin 64, iblk m c 5 t (ix2 a ⟨e, by omega⟩) = c' ⟨e % 32, by omega⟩)
    (hs : ∀ e : Fin 64, iblk m c 6 t (ix2 a ⟨e, by omega⟩) = s' ⟨e % 32, by omega⟩) :
    (outsAt0 m c t).1 (ix2 a b) = qEntry (nRow (iblk m c 0 t) (iblk m c 2 t) a) (pRow (iblk m c 0 t) (iblk m c 3 t) a) c' s' b := by
  unfold outsAt0
  dsimp only
  frame_out
  generalize iblk m c 0 t = x0
  generalize iblk m c 1 t = x1
  generalize iblk m c 2 t = x2
  generalize iblk m c 3 t = x3
  generalize iblk m c 4 t = x4
  generalize iblk m c 5 t = x5 at hc ⊢
  generalize iblk m c 6 t = x6 at hs ⊢
  canon_tiles y h
  all_goals idx_vars y
  all_goals (obtain rfl : a = y0 := Fin.ext h0)
  · exact odd_at x0 x2 x3 x5 x6 c' s' 896 15 a y1 b hc hs slices_S512x1024_o0_896_S512x128 rfl (by omega) (by omega)
  · exact nope_at x0 x2 x3 c' s' 1920 15 a y1 b slices_S512x2048_o0_1920_S512x128 rfl (by omega) (by omega)
  · exact even_at x0 x2 x3 x5 x6 c' s' 896 14 a y1 b hc hs slices_S512x1024_o0_896_S512x128 rfl (by omega) (by omega)
  · exact nope_at x0 x2 x3 c' s' 1792 14 a y1 b slices_S512x2048_o0_1792_S512x128 rfl (by omega) (by omega)
  · exact odd_at x0 x2 x3 x5 x6 c' s' 768 13 a y1 b hc hs slices_S512x1024_o0_768_S512x128 rfl (by omega) (by omega)
  · exact nope_at x0 x2 x3 c' s' 1664 13 a y1 b slices_S512x2048_o0_1664_S512x128 rfl (by omega) (by omega)
  · exact even_at x0 x2 x3 x5 x6 c' s' 768 12 a y1 b hc hs slices_S512x1024_o0_768_S512x128 rfl (by omega) (by omega)
  · exact nope_at x0 x2 x3 c' s' 1536 12 a y1 b slices_S512x2048_o0_1536_S512x128 rfl (by omega) (by omega)
  · exact odd_at x0 x2 x3 x5 x6 c' s' 640 11 a y1 b hc hs slices_S512x1024_o0_640_S512x128 rfl (by omega) (by omega)
  · exact nope_at x0 x2 x3 c' s' 1408 11 a y1 b slices_S512x2048_o0_1408_S512x128 rfl (by omega) (by omega)
  · exact even_at x0 x2 x3 x5 x6 c' s' 640 10 a y1 b hc hs slices_S512x1024_o0_640_S512x128 rfl (by omega) (by omega)
  · exact nope_at x0 x2 x3 c' s' 1280 10 a y1 b slices_S512x2048_o0_1280_S512x128 rfl (by omega) (by omega)
  · exact odd_at x0 x2 x3 x5 x6 c' s' 512 9 a y1 b hc hs slices_S512x1024_o0_512_S512x128 rfl (by omega) (by omega)
  · exact nope_at x0 x2 x3 c' s' 1152 9 a y1 b slices_S512x2048_o0_1152_S512x128 rfl (by omega) (by omega)
  · exact even_at x0 x2 x3 x5 x6 c' s' 512 8 a y1 b hc hs slices_S512x1024_o0_512_S512x128 rfl (by omega) (by omega)
  · exact nope_at x0 x2 x3 c' s' 1024 8 a y1 b slices_S512x2048_o0_1024_S512x128 rfl (by omega) (by omega)
  · exact odd_at x0 x2 x3 x5 x6 c' s' 384 7 a y1 b hc hs slices_S512x1024_o0_384_S512x128 rfl (by omega) (by omega)
  · exact nope_at x0 x2 x3 c' s' 896 7 a y1 b slices_S512x2048_o0_896_S512x128 rfl (by omega) (by omega)
  · exact even_at x0 x2 x3 x5 x6 c' s' 384 6 a y1 b hc hs slices_S512x1024_o0_384_S512x128 rfl (by omega) (by omega)
  · exact nope_at x0 x2 x3 c' s' 768 6 a y1 b slices_S512x2048_o0_768_S512x128 rfl (by omega) (by omega)
  · exact odd_at x0 x2 x3 x5 x6 c' s' 256 5 a y1 b hc hs slices_S512x1024_o0_256_S512x128 rfl (by omega) (by omega)
  · exact nope_at x0 x2 x3 c' s' 640 5 a y1 b slices_S512x2048_o0_640_S512x128 rfl (by omega) (by omega)
  · exact even_at x0 x2 x3 x5 x6 c' s' 256 4 a y1 b hc hs slices_S512x1024_o0_256_S512x128 rfl (by omega) (by omega)
  · exact nope_at x0 x2 x3 c' s' 512 4 a y1 b slices_S512x2048_o0_512_S512x128 rfl (by omega) (by omega)
  · exact odd_at x0 x2 x3 x5 x6 c' s' 128 3 a y1 b hc hs slices_S512x1024_o0_128_S512x128 rfl (by omega) (by omega)
  · exact nope_at x0 x2 x3 c' s' 384 3 a y1 b slices_S512x2048_o0_384_S512x128 rfl (by omega) (by omega)
  · exact even_at x0 x2 x3 x5 x6 c' s' 128 2 a y1 b hc hs slices_S512x1024_o0_128_S512x128 rfl (by omega) (by omega)
  · exact nope_at x0 x2 x3 c' s' 256 2 a y1 b slices_S512x2048_o0_256_S512x128 rfl (by omega) (by omega)
  · exact odd_at x0 x2 x3 x5 x6 c' s' 0 1 a y1 b hc hs slices_S512x1024_o0_0_S512x128 rfl (by omega) (by omega)
  · exact nope_at x0 x2 x3 c' s' 128 1 a y1 b slices_S512x2048_o0_128_S512x128 rfl (by omega) (by omega)
  · exact even_at x0 x2 x3 x5 x6 c' s' 0 0 a y1 b hc hs slices_S512x1024_o0_0_S512x128 rfl (by omega) (by omega)
  · exact nope_at x0 x2 x3 c' s' 0 0 a y1 b slices_S512x2048_o0_0_S512x128 rfl (by omega) (by omega)

set_option maxHeartbeats 3200000 in
/-- The keys' block at point `t`. -/
theorem k_block (t : Fin cfg0.N) (a : Fin 512) (b : Fin 2048) :
    (outsAt0 m c t).2.1 (ix2 a b) = kEntry (kvRow (iblk m c 1 t) (iblk m c 4 t) a) b := by
  unfold outsAt0
  dsimp only
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles y h
  all_goals idx_vars y
  all_goals (obtain rfl : a = y0 := Fin.ext h0)
  · exact key_at x1 x4 3840 15 a y1 b slices_S512x4096_o0_3840_S512x128 rfl (by omega) (by omega)
  · exact key_at x1 x4 3584 14 a y1 b slices_S512x4096_o0_3584_S512x128 rfl (by omega) (by omega)
  · exact key_at x1 x4 3328 13 a y1 b slices_S512x4096_o0_3328_S512x128 rfl (by omega) (by omega)
  · exact key_at x1 x4 3072 12 a y1 b slices_S512x4096_o0_3072_S512x128 rfl (by omega) (by omega)
  · exact key_at x1 x4 2816 11 a y1 b slices_S512x4096_o0_2816_S512x128 rfl (by omega) (by omega)
  · exact key_at x1 x4 2560 10 a y1 b slices_S512x4096_o0_2560_S512x128 rfl (by omega) (by omega)
  · exact key_at x1 x4 2304 9 a y1 b slices_S512x4096_o0_2304_S512x128 rfl (by omega) (by omega)
  · exact key_at x1 x4 2048 8 a y1 b slices_S512x4096_o0_2048_S512x128 rfl (by omega) (by omega)
  · exact key_at x1 x4 1792 7 a y1 b slices_S512x4096_o0_1792_S512x128 rfl (by omega) (by omega)
  · exact key_at x1 x4 1536 6 a y1 b slices_S512x4096_o0_1536_S512x128 rfl (by omega) (by omega)
  · exact key_at x1 x4 1280 5 a y1 b slices_S512x4096_o0_1280_S512x128 rfl (by omega) (by omega)
  · exact key_at x1 x4 1024 4 a y1 b slices_S512x4096_o0_1024_S512x128 rfl (by omega) (by omega)
  · exact key_at x1 x4 768 3 a y1 b slices_S512x4096_o0_768_S512x128 rfl (by omega) (by omega)
  · exact key_at x1 x4 512 2 a y1 b slices_S512x4096_o0_512_S512x128 rfl (by omega) (by omega)
  · exact key_at x1 x4 256 1 a y1 b slices_S512x4096_o0_256_S512x128 rfl (by omega) (by omega)
  · exact key_at x1 x4 0 0 a y1 b slices_S512x4096_o0_0_S512x128 rfl (by omega) (by omega)

end Cert.Kernel5Ideal.Heads
-- ==== Proof.HeadValues.lean ====
module

public import proofs.«01_k».proof.Proof.HeadPieces

/-! The values' block a grid point of the head projections leaves, from its input blocks. -/

@[expose] public section

set_option maxRecDepth 16384

noncomputable section
namespace Cert.Kernel5Ideal.Heads
open Cert.Kernel5Ideal Cert.Kernel5Ideal.Gen Idealize.ShloMosaic Idealize.ShloMosaic.TcCoe Idealize.SL.Sem
open Idealize.ShloMosaic.Pipeline (Dat)
open RowNorm HeadProj

variable (m : (ℓ : Loc nD τ sig) → Buf (Elt Ideal) ℓ) (c : Dev nD)

set_option maxHeartbeats 3200000 in
/-- The values' block at point `t`. -/
theorem v_block (t : Fin cfg0.N) (a : Fin 2304) (b : Fin 512) :
    (outsAt0 m c t).2.2 (ix3 0 a b) = vEntry (kvRow (iblk m c 1 t) (iblk m c 4 t) b) a := by
  unfold outsAt0
  dsimp only
  frame_out
  generalize iblk m c 0 t = x0
  generalize iblk m c 1 t = x1
  generalize iblk m c 2 t = x2
  generalize iblk m c 3 t = x3
  generalize iblk m c 4 t = x4
  generalize iblk m c 5 t = x5
  generalize iblk m c 6 t = x6
  canon_tiles y h using View.cover_of_tiledBy (s := S1x2304x512) _ (![1, 16, 512] : Fin 3 → ℕ) (by sl_kernel_rfl) _
  all_goals idx_vars y
  all_goals (obtain rfl : b = y2 := Fin.ext h2)
  all_goals (obtain rfl := Subsingleton.elim y0 0)
  · exact ones_at x1 x4 15 y1 b a (by omega) (by omega)
  · exact value_at x1 x4 3968 15 y1 b a slices_S512x4096_o0_3968_S512x128 rfl (by omega) (by omega)
  · exact ones_at x1 x4 14 y1 b a (by omega) (by omega)
  · exact value_at x1 x4 3712 14 y1 b a slices_S512x4096_o0_3712_S512x128 rfl (by omega) (by omega)
  · exact ones_at x1 x4 13 y1 b a (by omega) (by omega)
  · exact value_at x1 x4 3456 13 y1 b a slices_S512x4096_o0_3456_S512x128 rfl (by omega) (by omega)
  · exact ones_at x1 x4 12 y1 b a (by omega) (by omega)
  · exact value_at x1 x4 3200 12 y1 b a slices_S512x4096_o0_3200_S512x128 rfl (by omega) (by omega)
  · exact ones_at x1 x4 11 y1 b a (by omega) (by omega)
  · exact value_at x1 x4 2944 11 y1 b a slices_S512x4096_o0_2944_S512x128 rfl (by omega) (by omega)
  · exact ones_at x1 x4 10 y1 b a (by omega) (by omega)
  · exact value_at x1 x4 2688 10 y1 b a slices_S512x4096_o0_2688_S512x128 rfl (by omega) (by omega)
  · exact ones_at x1 x4 9 y1 b a (by omega) (by omega)
  · exact value_at x1 x4 2432 9 y1 b a slices_S512x4096_o0_2432_S512x128 rfl (by omega) (by omega)
  · exact ones_at x1 x4 8 y1 b a (by omega) (by omega)
  · exact value_at x1 x4 2176 8 y1 b a slices_S512x4096_o0_2176_S512x128 rfl (by omega) (by omega)
  · exact ones_at x1 x4 7 y1 b a (by omega) (by omega)
  · exact value_at x1 x4 1920 7 y1 b a slices_S512x4096_o0_1920_S512x128 rfl (by omega) (by omega)
  · exact ones_at x1 x4 6 y1 b a (by omega) (by omega)
  · exact value_at x1 x4 1664 6 y1 b a slices_S512x4096_o0_1664_S512x128 rfl (by omega) (by omega)
  · exact ones_at x1 x4 5 y1 b a (by omega) (by omega)
  · exact value_at x1 x4 1408 5 y1 b a slices_S512x4096_o0_1408_S512x128 rfl (by omega) (by omega)
  · exact ones_at x1 x4 4 y1 b a (by omega) (by omega)
  · exact value_at x1 x4 1152 4 y1 b a slices_S512x4096_o0_1152_S512x128 rfl (by omega) (by omega)
  · exact ones_at x1 x4 3 y1 b a (by omega) (by omega)
  · exact value_at x1 x4 896 3 y1 b a slices_S512x4096_o0_896_S512x128 rfl (by omega) (by omega)
  · exact ones_at x1 x4 2 y1 b a (by omega) (by omega)
  · exact value_at x1 x4 640 2 y1 b a slices_S512x4096_o0_640_S512x128 rfl (by omega) (by omega)
  · exact ones_at x1 x4 1 y1 b a (by omega) (by omega)
  · exact value_at x1 x4 384 1 y1 b a slices_S512x4096_o0_384_S512x128 rfl (by omega) (by omega)
  · exact ones_at x1 x4 0 y1 b a (by omega) (by omega)
  · exact value_at x1 x4 128 0 y1 b a slices_S512x4096_o0_128_S512x128 rfl (by omega) (by omega)

end Cert.Kernel5Ideal.Heads
-- ==== Proof.HeadArrays.lean ====
module

public import proofs.«01_k».proof.Proof.HeadBlocks
public import proofs.«01_k».proof.Proof.HeadValues

/-! The head projections' three result arrays, entry by entry, from the argument arrays. -/

@[expose] public section

set_option maxRecDepth 16384

noncomputable section
namespace Cert.Kernel5Ideal.Heads
open Cert.Kernel5Ideal Cert.Kernel5Ideal.Gen Idealize.ShloMosaic Idealize.ShloMosaic.TcCoe Idealize.SL.Sem
open Idealize.ShloMosaic.Pipeline (Dat)
open RowNorm HeadProj

variable (m : (ℓ : Loc nD τ sig) → Buf (Elt Ideal) ℓ) (c : Dev nD)

/-- Which block each window shows at a point. -/
theorem where_at : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val % 8, 0]
    ∧ win0_6.index t = ![t.val % 8, 0] ∧ win0_7.index t = ![t.val, 0]
    ∧ win0_8.index t = ![t.val, 0] ∧ win0_9.index t = ![t.val, 0, 0] :=
  (by decide +kernel : ∀ t : Fin grid0.N, _)

/-- The grid has 16 points. -/
theorem points (t : Fin cfg0.N) : t.val < 16 := t.isLt.trans_eq (by decide +kernel)

/-- Row `r` of the query latents' block at point `t`. -/
theorem cq_block (t : Fin cfg0.N) (r : Fin 512) (k : Fin 1024) (h : 512 * t.val + r.val < 8192) :
    iblk m c 0 t (ix2 r k) = m ((c : Thread nD τ).loc main_arg0)
      (ix3 ⟨(512 * t.val + r.val) / 4096, by omega⟩ ⟨(512 * t.val + r.val) % 4096, by omega⟩ k) := by
  blk_ext! [iblk, V, where_at t]

/-- Row `r` of the key/value latents' block at point `t`. -/
theorem ckv_block (t : Fin cfg0.N) (r : Fin 512) (k : Fin 512) (h : 512 * t.val + r.val < 8192) :
    iblk m c 1 t (ix2 r k) = m ((c : Thread nD τ).loc main_arg1)
      (ix3 ⟨(512 * t.val + r.val) / 4096, by omega⟩ ⟨(512 * t.val + r.val) % 4096, by omega⟩ k) := by
  blk_ext! [iblk, V, where_at t]

/-- The unrotated query columns' weights. -/
theorem wn_block (t : Fin cfg0.N) (k : Fin 1024) (e : Fin 2048) :
    iblk m c 2 t (ix2 k e) = m ((c : Thread nD τ).loc main_arg2) (ix2 k ⟨192 * (e.val / 128) + e.val % 128, by omega⟩) := by
  blk_ext! [iblk, V, where_at t]

/-- The rotated query columns' weights. -/
theorem wr_block (t : Fin cfg0.N) (k : Fin 1024) (e : Fin 1024) :
    iblk m c 3 t (ix2 k e) = m ((c : Thread nD τ).loc main_arg2) (ix2 k ⟨192 * (e.val / 64) + 128 + e.val % 64, by omega⟩) := by
  blk_ext! [iblk, V, where_at t]

/-- The keys' and values' weights. -/
theorem wkv_block (t : Fin cfg0.N) (k : Fin 512) (e : Fin 4096) :
    iblk m c 4 t (ix2 k e) = m ((c : Thread nD τ).loc main_arg3) (ix2 k e) := by
  blk_ext! [iblk, V, where_at t]

/-- Three pieces laid side by side depend on the pieces alone. -/
theorem side_by_side {x x' y y' : FVec Ideal S4096x32 .f32} {z z' : FVec Ideal S4096x64 .f32} (hx : x = x') (hy : y = y') (hz : z = z') :
    (concatenate S4096x128 1 [⟨S4096x32, x⟩, ⟨S4096x32, y⟩, ⟨S4096x64, z⟩] concatenates_S4096x32_S4096x32_S4096x64_S4096x128_d1 : FVec Ideal S4096x128 .f32)
      = concatenate S4096x128 1 [⟨S4096x32, x'⟩, ⟨S4096x32, y'⟩, ⟨S4096x64, z'⟩] concatenates_S4096x32_S4096x32_S4096x64_S4096x128_d1 := by
  subst hx hy hz; rfl

/-- The cosines as the region finds them: twice the 32 cosines, then zeros. -/
theorem cos_table : V m c main_v9 = (concatenate S4096x128 1 [⟨S4096x32, m ((c : Thread nD τ).loc main_arg4)⟩,
    ⟨S4096x32, m ((c : Thread nD τ).loc main_arg4)⟩, ⟨S4096x64, V m c main_v8⟩]
    concatenates_S4096x32_S4096x32_S4096x64_S4096x128_d1 : FVec Ideal S4096x128 .f32) := by
  dsimp only [V, hostOps0]
  after_results
  refine side_by_side ?_ ?_ ?_
  · exact V_main_arg4 m c
  · exact V_main_arg4 m c
  · rfl

/-- The sines as the region finds them: twice the 32 sines, then zeros. -/
theorem sin_table : V m c main_v10 = (concatenate S4096x128 1 [⟨S4096x32, m ((c : Thread nD τ).loc main_arg5)⟩,
    ⟨S4096x32, m ((c : Thread nD τ).loc main_arg5)⟩, ⟨S4096x64, V m c main_v8⟩]
    concatenates_S4096x32_S4096x32_S4096x64_S4096x128_d1 : FVec Ideal S4096x128 .f32) := by
  dsimp only [V, hostOps0]
  after_results
  refine side_by_side ?_ ?_ ?_
  · exact V_main_arg5 m c
  · exact V_main_arg5 m c
  · rfl

/-- A column of the first 64 is the piece's column modulo 32. -/
theorem table_at (x : FVec Ideal S4096x32 .f32) (z : FVec Ideal S4096x64 .f32) (r : Fin 4096) (e : Fin 64) : (concatenate S4096x128 1 [⟨S4096x32, x⟩, ⟨S4096x32, x⟩,
    ⟨S4096x64, z⟩]
    concatenates_S4096x32_S4096x32_S4096x64_S4096x128_d1 : FVec Ideal S4096x128 .f32) (ix2 r ⟨e, by omega⟩) = x (ix2 r ⟨e % 32, by omega⟩) := by
  pointwise
  by_cases h : (e : ℕ) < 32
  · rw [dif_pos h]; exact congrArg (fun k => x (ix2 r k)) (Fin.ext (Nat.mod_eq_of_lt h).symm)
  · rw [dif_neg h, dif_pos (by omega)]
    exact congrArg (fun k => x (ix2 r k)) (Fin.ext (by show (e : ℕ) - 32 = e % 32; omega))

/-- The cosines' block: the 32 cosines of a position, twice, in its first 64 columns. -/
theorem cos_block (t : Fin cfg0.N) (r : Fin 512) (e : Fin 64) (h : 512 * t.val + r.val < 8192) :
    iblk m c 5 t (ix2 r ⟨e, by omega⟩) = m ((c : Thread nD τ).loc main_arg4)
      (ix2 ⟨(512 * t.val + r.val) % 4096, by omega⟩ ⟨e % 32, by omega⟩) := by
  have hi : ((cfg0.win 5).blk t).view.emb (ix2 r ⟨e, by omega⟩)
      = ix2 (⟨(512 * t.val + r.val) % 4096, by omega⟩ : Fin 4096) (⟨e, by omega⟩ : Fin 128) := by
    blk_ext [where_at t]
  refine (congrArg (V m c (Pipeline.arrRef spec0 5)) hi).trans ?_
  show V m c main_v9 _ = _
  rw [cos_table]
  exact table_at _ _ _ e

/-- The sines' block: the 32 sines of a position, twice, in its first 64 columns. -/
theorem sin_block (t : Fin cfg0.N) (r : Fin 512) (e : Fin 64) (h : 512 * t.val + r.val < 8192) :
    iblk m c 6 t (ix2 r ⟨e, by omega⟩) = m ((c : Thread nD τ).loc main_arg5)
      (ix2 ⟨(512 * t.val + r.val) % 4096, by omega⟩ ⟨e % 32, by omega⟩) := by
  have hi : ((cfg0.win 6).blk t).view.emb (ix2 r ⟨e, by omega⟩)
      = ix2 (⟨(512 * t.val + r.val) % 4096, by omega⟩ : Fin 4096) (⟨e, by omega⟩ : Fin 128) := by
    blk_ext [where_at t]
  refine (congrArg (V m c (Pipeline.arrRef spec0 6)) hi).trans ?_
  show V m c main_v10 _ = _
  rw [sin_table]
  exact table_at _ _ _ e

/-- Row `r` of the products to the unrotated columns is token `512 t + r`'s. -/
theorem n_row (t : Fin cfg0.N) (r : Fin 512) (h : 512 * t.val + r.val < 8192) :
    nRow (iblk m c 0 t) (iblk m c 2 t) r = fun e => qUp (m ((c : Thread nD τ).loc main_arg0)) (m ((c : Thread nD τ).loc main_arg2))
      ⟨512 * t.val + r.val, h⟩ ⟨192 * (e.val / 128) + e.val % 128, by omega⟩ := by
  funext e
  unfold nRow qUp
  exact Finset.sum_congr rfl fun k _ => congrArg₂ (· * ·) (cq_block m c t r k h) (wn_block m c t k e)

/-- Row `r` of the products to the columns to rotate is token `512 t + r`'s. -/
theorem p_row (t : Fin cfg0.N) (r : Fin 512) (h : 512 * t.val + r.val < 8192) :
    pRow (iblk m c 0 t) (iblk m c 3 t) r = fun e => qUp (m ((c : Thread nD τ).loc main_arg0)) (m ((c : Thread nD τ).loc main_arg2))
      ⟨512 * t.val + r.val, h⟩ ⟨192 * (e.val / 64) + 128 + e.val % 64, by omega⟩ := by
  funext e
  unfold pRow qUp
  exact Finset.sum_congr rfl fun k _ => congrArg₂ (· * ·) (cq_block m c t r k h) (wr_block m c t k e)

/-- Row `r` of the products to the keys' and values' columns is token `512 t + r`'s. -/
theorem kv_row (t : Fin cfg0.N) (r : Fin 512) (h : 512 * t.val + r.val < 8192) :
    kvRow (iblk m c 1 t) (iblk m c 4 t) r = kvUp (m ((c : Thread nD τ).loc main_arg1)) (m ((c : Thread nD τ).loc main_arg3)) ⟨512 * t.val + r.val, h⟩ := by
  funext e
  unfold kvRow kvUp
  exact Finset.sum_congr rfl fun k _ => congrArg₂ (· * ·) (ckv_block m c t r k h) (wkv_block m c t k e)

/-- The queries' array. -/
theorem q_array : (dats m 0 c).arrAt 7 cfg0.N = (fun i : S8192x4096.Idx => qHead (m ((c : Thread nD τ).loc main_arg0)) (m ((c : Thread nD τ).loc main_arg2))
    (m ((c : Thread nD τ).loc main_arg4)) (m ((c : Thread nD τ).loc main_arg5)) (i 0) (i 1)) := by
  refine (dats m 0 c).arrAt_eq_of_covers 7 _ (by decide +kernel) fun t _ y => ?_
  blk_simp
  rw [after0_7]
  idx_vars y
  have hr : 512 * t.val + y0.val < 8192 := by have := points t; omega
  have hi : ((View.whole main_v13_0).slice (win0_7.rect t)).emb (ix2 y0 y1) = ix2 (⟨512 * t.val + y0.val, hr⟩ : Fin 8192) y1 := by
    blk_ext [where_at t]
  refine (q_block m c t y0 y1 (fun l => m ((c : Thread nD τ).loc main_arg4) (ix2 ⟨(512 * t.val + y0.val) % 4096, by omega⟩ l))
    (fun l => m ((c : Thread nD τ).loc main_arg5) (ix2 ⟨(512 * t.val + y0.val) % 4096, by omega⟩ l))
    (fun e => cos_block m c t y0 e hr) (fun e => sin_block m c t y0 e hr)).trans ?_
  refine Eq.trans ?_ (congrArg (fun i : S8192x4096.Idx => qHead (m ((c : Thread nD τ).loc main_arg0)) (m ((c : Thread nD τ).loc main_arg2))
    (m ((c : Thread nD τ).loc main_arg4)) (m ((c : Thread nD τ).loc main_arg5)) (i 0) (i 1)) hi).symm
  rw [n_row m c t y0 hr, p_row m c t y0 hr]
  rfl

/-- The keys' array. -/
theorem k_array : (dats m 0 c).arrAt 8 cfg0.N = (fun i : S8192x2048.Idx => kHead (m ((c : Thread nD τ).loc main_arg1)) (m ((c : Thread nD τ).loc main_arg3)) (i 0) (i 1)) := by
  refine (dats m 0 c).arrAt_eq_of_covers 8 _ (by decide +kernel) fun t _ y => ?_
  blk_simp
  rw [after0_8]
  idx_vars y
  have hr : 512 * t.val + y0.val < 8192 := by have := points t; omega
  have hi : ((View.whole main_v13_1).slice (win0_8.rect t)).emb (ix2 y0 y1) = ix2 (⟨512 * t.val + y0.val, hr⟩ : Fin 8192) y1 := by
    blk_ext [where_at t]
  refine (k_block m c t y0 y1).trans ?_
  refine Eq.trans ?_ (congrArg (fun i : S8192x2048.Idx => kHead (m ((c : Thread nD τ).loc main_arg1)) (m ((c : Thread nD τ).loc main_arg3)) (i 0) (i 1)) hi).symm
  rw [kv_row m c t y0 hr]
  rfl

/-- The values' array. -/
theorem v_array : (dats m 0 c).arrAt 9 cfg0.N = (fun i : S16x2304x512.Idx => vHead (m ((c : Thread nD τ).loc main_arg1)) (m ((c : Thread nD τ).loc main_arg3)) (i 0) (i 1) (i 2)) := by
  refine (dats m 0 c).arrAt_eq_of_covers 9 _ (by decide +kernel) fun t _ y => ?_
  blk_simp
  rw [after0_9]
  idx_vars y
  obtain rfl := Subsingleton.elim y0 0
  have hr : 512 * t.val + y2.val < 8192 := by have := points t; omega
  have hi : ((View.whole main_v13_2).slice (win0_9.rect t)).emb (ix3 0 y1 y2) = ix3 (⟨t.val, points t⟩ : Fin 16) y1 y2 := by
    blk_ext [where_at t]
  refine (v_block m c t y1 y2).trans ?_
  refine Eq.trans ?_ (congrArg (fun i : S16x2304x512.Idx => vHead (m ((c : Thread nD τ).loc main_arg1)) (m ((c : Thread nD τ).loc main_arg3)) (i 0) (i 1) (i 2)) hi).symm
  rw [kv_row m c t y2 hr]
  rfl

/-- The run with its three results named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v13_0) = (fun i : S8192x4096.Idx => qHead (m ((c : Thread nD τ).loc main_arg0)) (m ((c : Thread nD τ).loc main_arg2)) (m ((c : Thread nD τ).loc main_arg4)) (m ((c : Thread nD τ).loc main_arg5)) (i 0) (i 1))
      ∧ r.2.mem ((c : Thread nD τ).loc main_v13_1) = (fun i : S8192x2048.Idx => kHead (m ((c : Thread nD τ).loc main_arg1)) (m ((c : Thread nD τ).loc main_arg3)) (i 0) (i 1))
      ∧ r.2.mem ((c : Thread nD τ).loc main_v13_2) = (fun i : S16x2304x512.Idx => vHead (m ((c : Thread nD τ).loc main_arg1)) (m ((c : Thread nD τ).loc main_arg3)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 7).trans (q_array m c), ((h.1 c).1 8).trans (k_array m c), ((h.1 c).1 9).trans (v_array m c), h.2 c⟩)
    (θ_run_and (run_main m ρ) (unchanged m ρ))

end Cert.Kernel5Ideal.Heads
-- ==== Proof.HeadReference.lean ====
module

public import proofs.«01_k».proof.Proof.HeadProj
public import proofs.«01_k».proof.Proof.Gen.Reference5Ideal.Read
public import proofs.«01_k».proof.Proof.Gen.Reference5Ideal.Run
public import Idealize.ShloMosaic.Lib.Pipeline.ValueKit
public import Idealize.ShloMosaic.Lib.Pointwise

/-! The head projections' reference's three results, entry by entry, are the same functions of the arguments. -/

@[expose] public section

set_option maxRecDepth 16384

noncomputable section
namespace Cert.Reference5Ideal.Heads
open Cert.Reference5Ideal Cert.Reference5Ideal.Gen Cert.Reference5Ideal.Read Idealize.ShloMosaic Idealize.ShloMosaic.TcCoe Idealize.SL.Sem
open RowNorm HeadProj

variable (x : FVec Ideal S2x4096x1024 .bf16) (y : FVec Ideal S2x4096x512 .bf16) (w : FVec Ideal S1024x3072 .f32) (u : FVec Ideal S512x4096 .f32)
  (c s : FVec Ideal S4096x32 .f32)

/-- The projected query latent of token `r`. -/
theorem q_up_at (r : Fin 8192) (e : Fin 3072) :
    val_main_v1 (F := Ideal) x w (ix3 ⟨r / 4096, by omega⟩ ⟨r % 4096, by omega⟩ e) = qUp x w r e := by
  pointwise [val_main_v1, val_main_v0]
  rfl

/-- The projected key/value latent of token `r`. -/
theorem kv_up_at (r : Fin 8192) (e : Fin 4096) :
    val_main_v6 (F := Ideal) y u (ix3 ⟨r / 4096, by omega⟩ ⟨r % 4096, by omega⟩ e) = kvUp y u r e := by
  pointwise [val_main_v6, val_main_v5]
  rfl

/-- The projected key/value latent at position `j` of sequence `i`, which is token `r`. -/
theorem kv_up_of (r : Fin 8192) (e f : Fin 4096) (i : Fin 2) (j : Fin 4096) (hi : i.val = r.val / 4096) (hj : j.val = r.val % 4096) (he : e.val = f.val) :
    val_main_v6 (F := Ideal) y u (ix3 i j e) = kvUp y u r f := by
  have hi' : i = ⟨r.val / 4096, by omega⟩ := Fin.ext hi
  have hj' : j = ⟨r.val % 4096, by omega⟩ := Fin.ext hj
  have he' : e = f := Fin.ext he
  rw [hi', hj', he']
  exact kv_up_at y u r f

/-- A head's query columns of token `r`. -/
theorem head_at (r : Fin 8192) (h : Fin 16) (l : Fin 192) :
    val_main_v2 (F := Ideal) x w (ix4 ⟨r / 4096, by omega⟩ ⟨r % 4096, by omega⟩ h l) = qUp x w r ⟨192 * h + l, by omega⟩ := by
  pointwise [val_main_v2]
  refine (q_up_at x w r _).trans (congrArg (qUp x w r) (Fin.ext ?_))
  show h.val * 192 + l.val = 192 * h.val + l.val
  omega

/-- The keys. -/
theorem k_at (r : Fin 8192) (b : Fin 2048) : val_main_v37 (F := Ideal) y u (ix2 r b) = kHead y u r b := by
  pointwise [val_main_v37, val_main_v36, val_main_v8, val_main_v7]
  refine (kv_up_at y u r _).trans (congrArg (kvUp y u r) (Fin.ext ?_))
  show b.val / 128 * 256 + b.val % 128 = 256 * (b.val / 128) + b.val % 128
  omega

/-- The values read off their two ranges of rows. -/
theorem v_eq (g : Fin 2 → Fin 4096 → Fin 4096 → EReal) (v : Fin 4096 → EReal) (t : Fin 16) (a : Fin 2304) (p : Fin 512) (z : EReal) (hz : z = 1)
    (hg : ∀ (i : Fin 2) (j e f : Fin 4096), i.val = (512 * t.val + p.val) / 4096 → j.val = (512 * t.val + p.val) % 4096 → e.val = f.val → g i j e = v f) :
    (if h : t.val / 8 < 2 ∧ t.val % 8 * 512 + p.val < 4096 ∧ a.val / 144 < 16 ∧ a.val % 144 < 128 then
      g ⟨t.val / 8, h.1⟩ ⟨t.val % 8 * 512 + p.val, h.2.1⟩ ⟨a.val / 144 * 256 + (128 + a.val % 144), by omega⟩
     else z) = vEntry v a := by
  unfold vEntry
  by_cases h : a.val % 144 < 128
  · rw [dif_pos ⟨by omega, by omega, by omega, h⟩, if_pos h]
    refine hg _ _ _ _ ?_ ?_ ?_
    · show t.val / 8 = (512 * t.val + p.val) / 4096
      omega
    · show t.val % 8 * 512 + p.val = (512 * t.val + p.val) % 4096
      omega
    · show a.val / 144 * 256 + (128 + a.val % 144) = (256 * (a.val / 144) + 128 + a.val % 144) % 4096
      omega
  · rw [dif_neg (fun q => h q.2.2.2), if_neg h, hz]

/-- The padding of the values is one. -/
theorem one_at (j : S_.Idx) : val_main_call1_v0 (F := Ideal) j = 1 := by
  show (constant (F := Ideal) S_ FTy.f32 0x3F800000#32 : FVec Ideal S_ .f32) j = 1
  pointwise

/-- The values. -/
theorem v_at (t : Fin 16) (a : Fin 2304) (p : Fin 512) : val_main_v41 (F := Ideal) y u (ix3 t a p) = vHead y u t a p := by
  pointwise [val_main_v41, val_main_v40, val_main_v39, val_main_v38, val_main_v33, val_main_v9, val_main_v7]
  exact v_eq (fun i j e => val_main_v6 (F := Ideal) y u (ix3 i j e)) (kvUp y u ⟨512 * t.val + p.val, by omega⟩) t a p _ (one_at _)
    (fun i j e f hi hj he => kv_up_of y u ⟨512 * t.val + p.val, by omega⟩ e f i j hi hj he)

/-- The queries read off their four ranges of columns. -/
theorem q_eq (f : Fin 3072 → EReal) (c s : Fin 32 → EReal) (r : Fin 8192) (b : Fin 4096) (z : EReal) (hz : z = 0) :
    (if h : r.val / 4096 < 2 ∧ r.val % 4096 < 4096 ∧ b.val / 256 < 16 ∧ b.val % 256 < 192 then
      (if h1 : b.val % 256 < 128 then f ⟨192 * (b.val / 256) + b.val % 256, by omega⟩
        else if h2 : b.val % 256 - 128 < 32 then
          f ⟨192 * (b.val / 256) + (128 + (b.val % 256 - 128)), by omega⟩ * c ⟨b.val % 256 - 128, h2⟩
            - f ⟨192 * (b.val / 256) + (128 + (32 + (b.val % 256 - 128))), by omega⟩ * s ⟨b.val % 256 - 128, h2⟩
        else
          f ⟨192 * (b.val / 256) + (128 + (32 + (b.val % 256 - 128 - 32))), by omega⟩ * c ⟨b.val % 256 - 128 - 32, by omega⟩
            + f ⟨192 * (b.val / 256) + (128 + (b.val % 256 - 128 - 32)), by omega⟩ * s ⟨b.val % 256 - 128 - 32, by omega⟩) * qScale
     else z)
      = qEntry (fun e => f ⟨192 * (e.val / 128) + e.val % 128, by omega⟩) (fun e => f ⟨192 * (e.val / 64) + 128 + e.val % 64, by omega⟩) c s b := by
  unfold qEntry
  by_cases h1 : b.val % 256 < 128
  · rw [dif_pos ⟨by omega, by omega, by omega, by omega⟩, dif_pos h1, if_pos h1]
    refine congrArg (fun k => f k * qScale) (Fin.ext ?_)
    show 192 * (b.val / 256) + b.val % 256 = 192 * ((128 * (b.val / 256) + b.val % 256) % 2048 / 128) + (128 * (b.val / 256) + b.val % 256) % 2048 % 128
    omega
  · rw [if_neg h1]
    have eb : (b.val % 256 - 128) % 128 = b.val % 256 - 128 := Nat.mod_eq_of_lt (by omega)
    have ef : ∀ l : Fin 64, f ⟨192 * ((64 * (b.val / 256) + l.val) / 64) + 128 + (64 * (b.val / 256) + l.val) % 64, by omega⟩
        = f ⟨192 * (b.val / 256) + (128 + l.val), by omega⟩ := fun l => congrArg f (Fin.ext (by
      show 192 * ((64 * (b.val / 256) + l.val) / 64) + 128 + (64 * (b.val / 256) + l.val) % 64 = 192 * (b.val / 256) + (128 + l.val)
      omega))
    refine Eq.trans ?_ (congrArg₂ (fun l k => rotate l c s k * qScale) (funext ef).symm
      (show (⟨b.val % 256 - 128, by omega⟩ : Fin 128) = ⟨(b.val % 256 - 128) % 128, by omega⟩ from Fin.ext eb.symm))
    unfold rotate
    by_cases h : b.val % 256 < 192
    · rw [dif_pos ⟨by omega, by omega, by omega, h⟩, dif_neg h1]
      refine congrArg (· * qScale) ?_
      by_cases h2 : b.val % 256 - 128 < 32
      · rw [dif_pos h2, dif_pos h2]
      · have e : f ⟨192 * (b.val / 256) + (128 + (32 + (b.val % 256 - 128 - 32))), by omega⟩ = f ⟨192 * (b.val / 256) + (128 + (b.val % 256 - 128)), by omega⟩ :=
          congrArg f (Fin.ext (by
            show 192 * (b.val / 256) + (128 + (32 + (b.val % 256 - 128 - 32))) = 192 * (b.val / 256) + (128 + (b.val % 256 - 128))
            omega))
        rw [dif_neg h2, dif_neg h2, dif_pos (show b.val % 256 - 128 < 64 by omega), e]
    · rw [dif_neg (fun q => h q.2.2.2), dif_neg (show ¬ b.val % 256 - 128 < 32 by omega), dif_neg (show ¬ b.val % 256 - 128 < 64 by omega), zero_mul, hz]

/-- The queries. -/
theorem q_at (r : Fin 8192) (b : Fin 4096) : val_main_v35 (F := Ideal) x w c s (ix2 r b) = qHead x w c s r b := by
  pointwise [val_main_v35, val_main_v34, val_main_v32, val_main_call0_v0, val_main_c, val_main_v31, val_main_v30, val_main_cst, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v4, val_main_v3]
  simp only [head_at]
  refine q_eq (qUp x w r) (fun l => c (ix2 ⟨r.val % 4096, by omega⟩ l)) (fun l => s (ix2 ⟨r.val % 4096, by omega⟩ l)) r b _ ?_
  simp [FloatOps.sitofp]

/-- The array of `q_at`. -/
theorem q_array : val_main_v35 (F := Ideal) x w c s = (fun i : S8192x4096.Idx => qHead x w c s (i 0) (i 1)) := by
  funext i
  idx_vars i
  exact q_at x w c s i0 i1

/-- The array of `k_at`. -/
theorem k_array : val_main_v37 (F := Ideal) y u = (fun i : S8192x2048.Idx => kHead y u (i 0) (i 1)) := by
  funext i
  idx_vars i
  exact k_at y u i0 i1

/-- The array of `v_at`. -/
theorem v_array : val_main_v41 (F := Ideal) y u = (fun i : S16x2304x512.Idx => vHead y u (i 0) (i 1) (i 2)) := by
  funext i
  idx_vars i
  exact v_at y u i0 i1 i2

variable (m : (ℓ : Loc nD τ sig) → Buf (Elt Ideal) ℓ)

/-- The reference's run with its three results named; the arguments are unchanged. -/
theorem run_results (ρ : Dev nD → PrngReg) :
    θ_run defs (onTc (τ := τ) (main (F := Ideal))) ⟨m, fun _ => 0, ρ⟩ fun r => ∀ c : Dev nD,
      r.2.mem ((c : Thread nD τ).loc main_v35) = (fun i : S8192x4096.Idx => qHead (m ((c : Thread nD τ).loc main_arg0)) (m ((c : Thread nD τ).loc main_arg2)) (m ((c : Thread nD τ).loc main_arg4)) (m ((c : Thread nD τ).loc main_arg5)) (i 0) (i 1))
      ∧ r.2.mem ((c : Thread nD τ).loc main_v37) = (fun i : S8192x2048.Idx => kHead (m ((c : Thread nD τ).loc main_arg1)) (m ((c : Thread nD τ).loc main_arg3)) (i 0) (i 1))
      ∧ r.2.mem ((c : Thread nD τ).loc main_v41) = (fun i : S16x2304x512.Idx => vHead (m ((c : Thread nD τ).loc main_arg1)) (m ((c : Thread nD τ).loc main_arg3)) (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
    ⟨((h c).1.trans (val_main_v35_eq _ _ _ _)).trans (q_array _ _ _ _),
      ((h c).2.1.trans (val_main_v37_eq _ _)).trans (k_array _ _),
      ((h c).2.2.1.trans (val_main_v41_eq _ _)).trans (v_array _ _), (h c).2.2.2⟩) (Value.run m ρ)

end Cert.Reference5Ideal.Heads
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.LatentResults
public import proofs.«01_k».proof.Proof.LatentReference
public import proofs.«01_k».proof.Proof.Gate
public import proofs.«01_k».proof.Proof.GateReference
public import proofs.«01_k».proof.Proof.OutProj
public import proofs.«01_k».proof.Proof.OutProjReference
public import proofs.«01_k».proof.Proof.ShortConvFrame
public import proofs.«01_k».proof.Proof.ShortConvArray
public import proofs.«01_k».proof.Proof.ShortConvReference
public import proofs.«01_k».proof.Proof.HeadArrays
public import proofs.«01_k».proof.Proof.HeadReference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's five results are the reference's, entry by entry. -/
theorem latents_algebraic : Cert.algebraic_KernelIdeal_ReferenceIdeal := fun m g m' g' _ hagree =>
  ⟨fun c => (fun i : Cert.KernelIdeal.S8192x4096.Idx => RowNorm.hidden (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (i 0) (i 1)),
    fun c => (fun i : Cert.KernelIdeal.S8192x1024.Idx => RowNorm.queryLatent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0) (i 1)),
    fun c => (fun i : Cert.KernelIdeal.S8192x512.Idx => RowNorm.keyLatent (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (i 0) (i 1)),
    fun c => (fun i : Cert.KernelIdeal.S8192x128.Idx => RowNorm.rotaryKey (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (i 0) (i 1)),
    fun c => (fun i : Cert.KernelIdeal.S2048x4096.Idx => RowNorm.gateWeight (m ((c.tc : Thread Cert.KernelIdeal.nD Cert.KernelIdeal.τ).loc Cert.KernelIdeal.main_arg2)) (i 0) (i 1)),
    Cert.KernelIdeal.Latents.run_results m g,
    (θ_run Cert.ReferenceIdeal.defs _ _).mono (fun r h c => by
      have hr := h c
      obtain ⟨e0, e1, e2, e3, e4, e5, e6⟩ := hagree c
      refine ⟨hr.1.trans ?_, hr.2.1.trans ?_, hr.2.2.1.trans ?_, hr.2.2.2.1.trans ?_, hr.2.2.2.2.1.trans ?_, hr.2.2.2.2.2⟩
      · rw [e0, e1]
      · rw [e0, e1, e2, e3]
      · rw [e0, e1, e2, e4]
      · rw [e0, e1, e2, e5, e6]
      · rw [e2]) (Cert.ReferenceIdeal.Latents.run_results m' g')⟩

/-- The reference runs to its end, leaves its arguments as they were, and declares no semaphore. -/
theorem latents_reference_frame : Cert.quiescent_ReferenceIdeal := fun m g _ =>
  (θ_run Cert.ReferenceIdeal.defs _ _).mono
    (fun r h => ⟨fun c => (h c).2.2.2.2.2, Idealize.ShloMosaic.sem_eq_zero_of_no_sems (by decide) r.2⟩)
    (Cert.ReferenceIdeal.Latents.run_results m g)

/-- The gate the kernel returns is the reference's, entry by entry. -/
theorem gate_algebraic : Cert.algebraic_Kernel3Ideal_Reference3Ideal := fun m g m' g' _ hagree =>
  ⟨fun c => (fun i : Cert.Kernel3Ideal.S8192x2048.Idx => Gating.gate (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (i 0) (i 1)),
    Cert.Kernel3Ideal.Gate.run_results m g,
    (θ_run Cert.Reference3Ideal.defs _ _).mono (fun r h c => by
      have hr := h c
      obtain ⟨e0, e1⟩ := hagree c
      refine ⟨hr.1.trans ?_, hr.2⟩
      rw [e0, e1]) (Cert.Reference3Ideal.Gate.run_results m' g')⟩

/-- The gate's reference runs to its end, leaves its arguments as they were, and declares no semaphore. -/
theorem gate_reference_frame : Cert.quiescent_Reference3Ideal := fun m g _ =>
  (θ_run Cert.Reference3Ideal.defs _ _).mono
    (fun r h => ⟨fun c => (h c).2, Idealize.ShloMosaic.sem_eq_zero_of_no_sems (by decide) r.2⟩)
    (Cert.Reference3Ideal.Gate.run_results m g)

/-- The layer's output the kernel returns is the reference's, entry by entry. -/
theorem out_proj_algebraic : Cert.algebraic_Kernel4Ideal_Reference4Ideal := fun m g m' g' _ hagree =>
  ⟨fun c => (fun i : Cert.Kernel4Ideal.S8192x4096.Idx => RowNorm.layerOut (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (i 0) (i 1)),
    Cert.Kernel4Ideal.OutProj.run_results m g,
    (θ_run Cert.Reference4Ideal.defs _ _).mono (fun r h c => by
      have hr := h c
      obtain ⟨e0, e1, e2, e3, e4⟩ := hagree c
      refine ⟨hr.1.trans ?_, hr.2⟩
      rw [e0, e1, e2, e3, e4]) (Cert.Reference4Ideal.OutProj.run_results m' g')⟩

/-- The output projection's reference runs to its end, leaves its arguments as they were, and declares no semaphore. -/
theorem out_proj_reference_frame : Cert.quiescent_Reference4Ideal := fun m g _ =>
  (θ_run Cert.Reference4Ideal.defs _ _).mono
    (fun r h => ⟨fun c => (h c).2, Idealize.ShloMosaic.sem_eq_zero_of_no_sems (by decide) r.2⟩)
    (Cert.Reference4Ideal.OutProj.run_results m g)

/-- The gated convolution the kernel returns is the reference's, entry by entry. -/
theorem conv_algebraic : Cert.algebraic_Kernel2Ideal_Reference2Ideal := fun m g m' g' _ hagree =>
  ⟨fun c => (fun i : Cert.Kernel2Ideal.S8192x2048.Idx => ShortConv.gated (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (i 0) (i 1)),
    Cert.Kernel2Ideal.ShortConvValue.run_results m g,
    (θ_run Cert.Reference2Ideal.defs _ _).mono (fun r h c => by
      have hr := h c
      obtain ⟨e0, e1, e2⟩ := hagree c
      refine ⟨hr.1.trans ?_, hr.2⟩
      rw [e0, e1, e2]) (Cert.Reference2Ideal.ShortConvValue.run_results m' g')⟩

/-- The gated convolution's reference runs to its end, leaves its arguments as they were, and declares no semaphore. -/
theorem conv_reference_frame : Cert.quiescent_Reference2Ideal := fun m g _ =>
  (θ_run Cert.Reference2Ideal.defs _ _).mono
    (fun r h => ⟨fun c => (h c).2, Idealize.ShloMosaic.sem_eq_zero_of_no_sems (by decide) r.2⟩)
    (Cert.Reference2Ideal.ShortConvValue.run_results m g)

/-- The queries, keys and values of the heads the kernel returns are the reference's, entry by entry. -/
theorem heads_algebraic : Cert.algebraic_Kernel5Ideal_Reference5Ideal := fun m g m' g' _ hagree =>
  ⟨fun c => (fun i : Cert.Kernel5Ideal.S8192x4096.Idx => HeadProj.qHead (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (i 0) (i 1)),
    fun c => (fun i : Cert.Kernel5Ideal.S8192x2048.Idx => HeadProj.kHead (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (i 0) (i 1)),
    fun c => (fun i : Cert.Kernel5Ideal.S16x2304x512.Idx => HeadProj.vHead (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)) (i 0) (i 1) (i 2)),
    Cert.Kernel5Ideal.Heads.run_results m g,
    (θ_run Cert.Reference5Ideal.defs _ _).mono (fun r h c => by
      have hr := h c
      obtain ⟨e0, e1, e2, e3, e4, e5⟩ := hagree c
      refine ⟨hr.1.trans ?_, hr.2.1.trans ?_, hr.2.2.1.trans ?_, hr.2.2.2⟩
      · rw [e0, e2, e4, e5]
      · rw [e1, e3]
      · rw [e1, e3]) (Cert.Reference5Ideal.Heads.run_results m' g')⟩

/-- The head projections' reference runs to its end, leaves its arguments as they were, and declares no semaphore. -/
theorem heads_reference_frame : Cert.quiescent_Reference5Ideal := fun m g _ =>
  (θ_run Cert.Reference5Ideal.defs _ _).mono
    (fun r h => ⟨fun c => (h c).2.2.2, Idealize.ShloMosaic.sem_eq_zero_of_no_sems (by decide) r.2⟩)
    (Cert.Reference5Ideal.Heads.run_results m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, latents_reference_frame,
  fun m ρ _ => Cert.Kernel2.ShortConvFrame.frame m ρ, fun m ρ _ => Cert.Kernel2Ideal.ShortConvValue.frame m ρ, conv_reference_frame,
  fun m ρ _ => Cert.Kernel3.Gen.frame m ρ, fun m ρ _ => Cert.Kernel3Ideal.Gen.frame m ρ, gate_reference_frame,
  fun m ρ _ => Cert.Kernel4.Gen.frame m ρ, fun m ρ _ => Cert.Kernel4Ideal.Gen.frame m ρ, out_proj_reference_frame,
  fun m ρ _ => Cert.Kernel5.Gen.frame m ρ, fun m ρ _ => Cert.Kernel5Ideal.Gen.frame m ρ, heads_reference_frame,
  trivial, latents_algebraic, trivial, conv_algebraic, trivial, gate_algebraic, trivial, out_proj_algebraic, trivial, heads_algebraic⟩

end Cert.Proof

end
